-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨4, ![8, 512, 8, 64]⟩ ⟨4, ![8, 2048, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![8, 512, 8, 64]⟩ ⟨4, ![8, 2048, 8, 64]⟩ (Layout.meshBlock [2, 4, 4] ![[], [1], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v16) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S8x1x8x64 : Shape := ⟨4, ![8, 1, 8, 64]⟩
abbrev S8x512x8x64 : Shape := ⟨4, ![8, 512, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x512x8x64 : S_.BroadcastsInDim S8x512x8x64 (![] : Fin 0 → Fin S8x512x8x64.rank)
  reducesTo_S8x512x8x64_S_d0_1_2_3 : S8x512x8x64.ReducesTo [0, 1, 2, 3] S_

variable [Facts]

def fn {F : FTy → Type} [FloatOps F] (main_arg0 : FVec F S8x1x8x64 .bf16) (main_arg1 : FVec F S8x512x8x64 .bf16) (main_arg2 : FVec F S8x512x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x512x8x64 .bf16 := Host.absf main_arg1
  let main_cst_0 : FVec F S_ .bf16 := constant S_ .bf16 0x7F80#16
  let main_v5 : FVec F S8x512x8x64 .bf16 := broadcastInDim S8x512x8x64 ![] bcast_S_S8x512x8x64 main_cst_0
  let main_v6 : IVec S8x512x8x64 1 := cmpf .olt main_v4 main_v5
  let main_c_1 : IVec S_ 1 := constantI S_ 1 1#1
  let main_v7 : IVec S_ 1 := (fun x v => Host.reduce IntOp.andi x v reducesTo_S8x512x8x64_S_d0_1_2_3 h_S_) main_v6 main_c_1
  let main_v8 : IVec S_ 1 := andi main_v3 main_v7
  main_v8
-- ==== Pre_finite_scores_ReferenceIdeal.lean ====
abbrev S8x1x8x64 : Shape := ⟨4, ![8, 1, 8, 64]⟩
abbrev S8x2048x8x64 : Shape := ⟨4, ![8, 2048, 8, 64]⟩
abbrev S_ : Shape := ⟨0, ![]⟩

class Facts : Prop where
  bcast_S_S8x1x8x64 : S_.BroadcastsInDim S8x1x8x64 (![] : Fin 0 → Fin S8x1x8x64.rank)
  reducesTo_S8x1x8x64_S_d0_1_2_3 : S8x1x8x64.ReducesTo [0, 1, 2, 3] S_
  h_S_ : 0 < S_.numel
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_

variable [Facts]

def fn {F : FTy → Type} [FloatOps F] (main_arg0 : FVec F S8x1x8x64 .bf16) (main_arg1 : FVec F S8x2048x8x64 .bf16) (main_arg2 : FVec F S8x2048x8x64 .bf16) : IVec S_ 1 :=
  let main_v0 : FVec F S8x1x8x64 .bf16 := Host.absf main_arg0
  let main_cst : FVec F S_ .bf16 := constant S_ .bf16 0x7F80#16
  let main_v1 : FVec F S8x1x8x64 .bf16 := broadcastInDim S8x1x8x64 ![] bcast_S_S8x1x8x64 main_cst
  let main_v2 : IVec S8x1x8x64 1 := cmpf .olt main_v0 main_v1
  let main_c : IVec S_ 1 := constantI S_ 1 1#1
  let main_v3 : IVec S_ 1 := (fun x v => Host.reduce IntOp.andi x v reducesTo_S8x1x8x64_S_d0_1_2_3 h_S_) main_v2 main_c
  let main_v4 : FVec F S8x2048x8x64 .bf16 := Host.absf main_arg1
  let main_cst_0 : FVec F S_ .bf16 := constant S_ .bf16 0x7F80#16
  let main_v5 : FVec F S8x2048x8x64 .bf16 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  main_v8
-- ==== Kernel.lean ====
abbrev S8x1x8x64 : Shape := ⟨4, ![8, 1, 8, 64]⟩
abbrev S8x512x8x64 : Shape := ⟨4, ![8, 512, 8, 64]⟩
abbrev S8x9x64 : Shape := ⟨3, ![8, 9, 64]⟩
abbrev S4x8x9x64 : Shape := ⟨4, ![4, 8, 9, 64]⟩
abbrev S4 : Shape := ⟨1, ![4]⟩
abbrev S_ : Shape := ⟨0, ![]⟩
abbrev S8x512x8 : Shape := ⟨3, ![8, 512, 8]⟩
abbrev S8x512x8x1 : Shape := ⟨4, ![8, 512, 8, 1]⟩
abbrev S8x8x1 : Shape := ⟨3, ![8, 8, 1]⟩
abbrev S8x1x8x1 : Shape := ⟨4, ![8, 1, 8, 1]⟩
abbrev S8x8x64 : Shape := ⟨3, ![8, 8, 64]⟩
abbrev S8x1x8 : Shape := ⟨3, ![8, 1, 8]⟩
abbrev S1 : Shape := ⟨1, ![1]⟩
abbrev S1x8x9x64 : Shape := ⟨4, ![1, 8, 9, 64]⟩
abbrev S8x8 : Shape := ⟨2, ![8, 8]⟩

abbrev nBuf : Space → Nat
  | .hbm => 4
  | .vmem => 6
  | .smem => 0
  | _ => 0

abbrev bufTy : (tb : Table) → Fin (tcTables nBuf tb) → BufTy
  | .hbm, ⟨0, _⟩ => ⟨S8x1x8x64, .bf16⟩
  | .hbm, ⟨1, _⟩ => ⟨S8x512x8x64, .bf16⟩
  | .hbm, ⟨2, _⟩ => ⟨S8x512x8x64, .bf16⟩
  | .hbm, ⟨3, _⟩ => ⟨S8x1x8x64, .f32⟩
  | .local _ .vmem, ⟨0, _⟩ => ⟨S8x1x8x64, .bf16⟩
  | .local _ .vmem, ⟨1, _⟩ => ⟨S8x512x8x64, .bf16⟩
  | .local _ .vmem, ⟨2, _⟩ => ⟨S8x512x8x64, .bf16⟩
  | .local _ .vmem, ⟨3, _⟩ => ⟨S8x1x8x64, .f32⟩
  | .local _ .vmem, ⟨4, _⟩ => ⟨S8x9x64, .f32⟩
  | .local _ .vmem, ⟨5, _⟩ => ⟨S4x8x9x64, .f32⟩
  | _, _ => ⟨S8x1x8x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32 : BitVec 32 := 0#32
  let v14 : BitVec 1 := Scalar.cmpi .ne v5 c0_i32
  let v15 : BitVec 32 := Scalar.extui v14
  let c0_i32_5 : BitVec 32 := 0#32
  let v16 : BitVec 1 := Scalar.cmpi .ne v15 c0_i32_5
  v16

def k0_dev1 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c0_i32_78 : BitVec 32 := 0#32
  let c4_i32_81 : BitVec 32 := 4#32
  let v119 : BitVec 32 := Scalar.muli c0_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_6 : BitVec 32 := 1#32
  let v17 : BitVec 1 := Scalar.cmpi .ne v5 c1_i32_6
  let v18 : BitVec 32 := Scalar.extui v17
  let c0_i32_7 : BitVec 32 := 0#32
  let v19 : BitVec 1 := Scalar.cmpi .ne v18 c0_i32_7
  v19

def k0_dev2 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c1_i32_78 : BitVec 32 := 1#32
  let c4_i32_81 : BitVec 32 := 4#32
  let v119 : BitVec 32 := Scalar.muli c1_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_8 : BitVec 32 := 2#32
  let v20 : BitVec 1 := Scalar.cmpi .ne v5 c2_i32_8
  let v21 : BitVec 32 := Scalar.extui v20
  let c0_i32_9 : BitVec 32 := 0#32
  let v22 : BitVec 1 := Scalar.cmpi .ne v21 c0_i32_9
  v22

def k0_dev3 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c2_i32_78 : BitVec 32 := 2#32
  let c4_i32_81 : BitVec 32 := 4#32
  let v119 : BitVec 32 := Scalar.muli c2_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v23 : BitVec 1 := Scalar.cmpi .ne v5 c3_i32
  let v24 : BitVec 32 := Scalar.extui v23
  let c0_i32_10 : BitVec 32 := 0#32
  let v25 : BitVec 1 := Scalar.cmpi .ne v24 c0_i32_10
  v25

def k0_dev4 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c3_i32_78 : BitVec 32 := 3#32
  let c4_i32_81 : BitVec 32 := 4#32
  let v119 : BitVec 32 := Scalar.muli c3_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_33 : BitVec 32 := 0#32
  let v59 : BitVec 1 := Scalar.cmpi .ne v5 c0_i32_33
  let v60 : BitVec 32 := Scalar.extui v59
  let c0_i32_34 : BitVec 32 := 0#32
  let v61 : BitVec 1 := Scalar.cmpi .ne v60 c0_i32_34
  v61

def k0_off1 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off2 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_83 : BitVec 32 := 0#32
  let c0_i32_84 : BitVec 32 := 0#32
  let c0_i32_85 : BitVec 32 := 0#32
  ![v5.toNat, 0, 0, 0]
def k0_dev5 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c0_i32_78 : BitVec 32 := 0#32
  let c4_i32_81 : BitVec 32 := 4#32
  let v119 : BitVec 32 := Scalar.muli c0_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_35 : BitVec 32 := 1#32
  let v62 : BitVec 1 := Scalar.cmpi .ne v5 c1_i32_35
  let v63 : BitVec 32 := Scalar.extui v62
  let c0_i32_36 : BitVec 32 := 0#32
  let v64 : BitVec 1 := Scalar.cmpi .ne v63 c0_i32_36
  v64

def k0_off3 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off4 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_83 : BitVec 32 := 0#32
  let c0_i32_84 : BitVec 32 := 0#32
  let c0_i32_85 : BitVec 32 := 0#32
  ![v5.toNat, 0, 0, 0]
def k0_dev6 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c1_i32_78 : BitVec 32 := 1#32
  let c4_i32_81 : BitVec 32 := 4#32
  let v119 : BitVec 32 := Scalar.muli c1_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_37 : BitVec 32 := 2#32
  let v65 : BitVec 1 := Scalar.cmpi .ne v5 c2_i32_37
  let v66 : BitVec 32 := Scalar.extui v65
  let c0_i32_38 : BitVec 32 := 0#32
  let v67 : BitVec 1 := Scalar.cmpi .ne v66 c0_i32_38
  v67

def k0_off5 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off6 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_83 : BitVec 32 := 0#32
  let c0_i32_84 : BitVec 32 := 0#32
  let c0_i32_85 : BitVec 32 := 0#32
  ![v5.toNat, 0, 0, 0]
def k0_dev7 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c2_i32_78 : BitVec 32 := 2#32
  let c4_i32_81 : BitVec 32 := 4#32
  let v119 : BitVec 32 := Scalar.muli c2_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_39 : BitVec 32 := 3#32
  let v68 : BitVec 1 := Scalar.cmpi .ne v5 c3_i32_39
  let v69 : BitVec 32 := Scalar.extui v68
  let c0_i32_40 : BitVec 32 := 0#32
  let v70 : BitVec 1 := Scalar.cmpi .ne v69 c0_i32_40
  v70

def k0_off7 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off8 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_83 : BitVec 32 := 0#32
  let c0_i32_84 : BitVec 32 := 0#32
  let c0_i32_85 : BitVec 32 := 0#32
  ![v5.toNat, 0, 0, 0]
def k0_dev8 (d0 : Dev nD) : Nat :=
  let c0_i32_80 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_79 : BitVec 32 := 16#32
  let v117 : BitVec 32 := Scalar.muli v2 c16_i32_79
  let v118 : BitVec 32 := Scalar.addi c0_i32_80 v117
  let c3_i32_78 : BitVec 32 := 3#32
  let c4_i32_81 : BitVec 32 := 4#32
  let v119 : BitVec 32 := Scalar.muli c3_i32_78 c4_i32_81
  let v120 : BitVec 32 := Scalar.addi v118 v119
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_82 : BitVec 32 := 1#32
  let v121 : BitVec 32 := Scalar.muli v8 c1_i32_82
  let v122 : BitVec 32 := Scalar.addi v120 v121
  v122.toNat
def k0_cond13 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_69 : BitVec 32 := 0#32
  let v105 : BitVec 1 := Scalar.cmpi .ne v5 c0_i32_69
  let v106 : BitVec 32 := Scalar.extui v105
  let c0_i32_70 : BitVec 32 := 0#32
  let v107 : BitVec 1 := Scalar.cmpi .ne v106 c0_i32_70
  v107

def k0_off9 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_80 : BitVec 32 := 0#32
  let c0_i32_81 : BitVec 32 := 0#32
  let c0_i32_82 : BitVec 32 := 0#32
  ![v5.toNat, 0, 0, 0]
def k0_cond14 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_71 : BitVec 32 := 1#32
  let v108 : BitVec 1 := Scalar.cmpi .ne v5 c1_i32_71
  let v109 : BitVec 32 := Scalar.extui v108
  let c0_i32_72 : BitVec 32 := 0#32
  let v110 : BitVec 1 := Scalar.cmpi .ne v109 c0_i32_72
  v110

def k0_off10 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_80 : BitVec 32 := 0#32
  let c0_i32_81 : BitVec 32 := 0#32
  let c0_i32_82 : BitVec 32 := 0#32
  ![v5.toNat, 0, 0, 0]
def k0_cond15 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_73 : BitVec 32 := 2#32
  let v111 : BitVec 1 := Scalar.cmpi .ne v5 c2_i32_73
  let v112 : BitVec 32 := Scalar.extui v111
  let c0_i32_74 : BitVec 32 := 0#32
  let v113 : BitVec 1 := Scalar.cmpi .ne v112 c0_i32_74
  v113

def k0_off11 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_80 : BitVec 32 := 0#32
  let c0_i32_81 : BitVec 32 := 0#32
  let c0_i32_82 : BitVec 32 := 0#32
  ![v5.toNat, 0, 0, 0]
def k0_cond16 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_75 : BitVec 32 := 3#32
  let v114 : BitVec 1 := Scalar.cmpi .ne v5 c3_i32_75
  let v115 : BitVec 32 := Scalar.extui v114
  let c0_i32_76 : BitVec 32 := 0#32
  let v116 : BitVec 1 := Scalar.cmpi .ne v115 c0_i32_76
  v116

def k0_off12 (d0 : Dev nD) : Fin 4 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_80 : BitVec 32 := 0#32
  let c0_i32_81 : BitVec 32 := 0#32
  let c0_i32_82 : BitVec 32 := 0#32
  ![v5.toNat, 0, 0, 0]
abbrev stage0_0 : Fin 1 → Memref sig .tc .vmem S8x1x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512x8x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8x1x8x64 : Shape := ⟨4, ![8, 1, 8, 64]⟩
abbrev S8x2048x8x64 : Shape := ⟨4, ![8, 2048, 8, 64]⟩
abbrev S8x8x1x2048 : Shape := ⟨4, ![8, 8, 1, 2048]⟩
abbrev S_ : Shape := ⟨0, ![]⟩
abbrev S8x8x1 : Shape := ⟨3, ![8, 8, 1]⟩
abbrev S8x8x1x1 : Shape := ⟨4, ![8, 8, 1, 1]⟩
abbrev S8x8x64x1 : Shape := ⟨4, ![8, 8, 64, 1]⟩

abbrev nBuf : Space → Nat
  | .hbm => 23
  | .vmem => 0
  | .smem => 0
  | _ => 0

abbrev bufTy : (tb : Table) → Fin (tcTables nBuf tb) → BufTy
  | .hbm, ⟨0, _⟩ => ⟨S8x1x8x64, .bf16⟩
  | .hbm, ⟨1, _⟩ => ⟨S8x2048x8x64, .bf16⟩
  | .hbm, ⟨2, _⟩ => ⟨S8x2048x8x64, .bf16⟩
  | .hbm, ⟨3, _⟩ => ⟨S8x1x8x64, .f32⟩
  | .hbm, ⟨4, _⟩ => ⟨S8x2048x8x64, .f32⟩
  | .hbm, ⟨5, _⟩ => ⟨S8x2048x8x64, .f32⟩
  | .hbm, ⟨6, _⟩ => ⟨S8x8x1x2048, .f32⟩
  | .hbm, ⟨7, _⟩ => ⟨S_, .f32⟩
  | .hbm, ⟨8, _⟩ => ⟨S8x8x1x2048, .f32⟩
  | .hbm, ⟨9, _⟩ => ⟨S8x8x1x2048, .f32⟩
  | .hbm, ⟨10, _⟩ => ⟨S_, .f32⟩
  | .hbm, ⟨11, _⟩ => ⟨S8x8x1, .f32⟩
  | .hbm, ⟨12, _⟩ => ⟨S8x8x1x1, .f32⟩
  | .hbm, ⟨13, _⟩ => ⟨S8x8x1x2048, .f32⟩
  | .hbm, ⟨14, _⟩ => ⟨S8x8x1x2048, .f32⟩
  | .hbm, ⟨15, _⟩ => ⟨S8x8x1x2048, .f32⟩
  | .hbm, ⟨16, _⟩ => ⟨S_, .f32⟩
  | .hbm, ⟨17, _⟩ => ⟨S8x8x1, .f32⟩
  | .hbm, ⟨18, _⟩ => ⟨S8x8x1x1, .f32⟩
  | .hbm, ⟨19, _⟩ => ⟨S8x8x1x2048, .f32⟩
  | .hbm, ⟨20, _⟩ => ⟨S8x8x1x2048, .f32⟩
  | .hbm, ⟨21, _⟩ => ⟨S8x8x64x1, .f32⟩
  | .hbm, ⟨22, _⟩ => ⟨S8x1x8x64, .f32⟩
  | _, _ => ⟨S8x1x8x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Proof.Protocol.lean ====
/-
# The protocol of the all-reduce

Thirty-two devices at (x, y, z) on a 2 × 4 × 4 mesh; the four devices that differ in `y` alone exchange their partial sums.
Device `c` clears its landing buffer of four slots, tells each of the other three that it is ready (one unit on that
device's barrier semaphore), waits for three such units, computes its own partial sums, sends them into slot `y c` of each
of the other three, waits for the three that land on it, adds up, and waits for its own three transfers to have left.

This module holds the mesh maps, the memory that changes hands, the contents it has, and the schedule: which signal or
landing pays which semaphore, and what memory comes with it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Transfers
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own, and the exchange's with duties named by the payer's `y` -/

/-- The exchange's own algebra: rounds of duties over the semaphores. -/
abbrev UB : Type := URounds (GSem nD τ sig) (Fin 4)
/-- The pipeline's algebra with the exchange's. -/
abbrev UU : Type := UR sig nD τ × UB

local notation "𝕄" => MT nD τ sig Unit (Elt F) ℕ UU ℕ

/-- The pipeline's place in it. -/
abbrev EP : Emb (UR sig nD τ) (MT nD τ sig Unit (Elt F) ℕ UU ℕ) := embL
/-- The exchange's place in it. -/
abbrev ER : Emb UB (MT nD τ sig Unit (Elt F) ℕ UU ℕ) := embR

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The mesh -/

set_option backward.proofsInPublic true in
/-- A device's coordinate along `y`. -/
def y (c : Dev nD) : Fin 4 := ⟨(c.val / 4) % 4, Nat.mod_lt _ (by decide)⟩

/-- The number of a peer is that of a device. -/
theorem peer_lt (c : Dev nD) (k : Fin 4) : 16 * (c.val / 16) + 4 * k.val + c.val % 4 < nD := by
  have hc : c.val < 32 := c.isLt
  have hk := k.isLt
  show _ < 32
  omega

set_option backward.proofsInPublic true in
/-- The device at `y = k` in `c`'s group. -/
def peer (c : Dev nD) (k : Fin 4) : Dev nD := ⟨16 * (c.val / 16) + 4 * k.val + c.val % 4, peer_lt c k⟩

/-- The peer at `k` is at `y = k`. -/
theorem y_peer (c : Dev nD) (k : Fin 4) : y (peer c k) = k := by
  apply Fin.ext; have := k.isLt; simp only [y, peer]; omega
/-- A peer's peers are the device's own. -/
theorem peer_peer (c : Dev nD) (k j : Fin 4) : peer (peer c k) j = peer c j := by
  apply Fin.ext; have := k.isLt; have := j.isLt; simp only [peer]; omega
/-- A device is its own peer at its own `y`. -/
theorem peer_y (c : Dev nD) : peer c (y c) = c := by
  apply Fin.ext; have hc : c.val < 32 := c.isLt; simp only [peer, y]; omega
/-- The way to a peer and back. -/
theorem peer_back (c : Dev nD) (k : Fin 4) : peer (peer c k) (y c) = c := by rw [peer_peer, peer_y]
/-- Different coordinates give different peers. -/
theorem peer_inj (c : Dev nD) {j k : Fin 4} (h : peer c j = peer c k) : j = k := by
  rw [← y_peer c j, h, y_peer]

/-- Device `c` and slot `k` trade places with device `peer c k` and slot `y c`: what `c` gives `peer c k` and what it is
    given back are each other's image. -/
def swap : Dev nD × Fin 4 ≃ Dev nD × Fin 4 where
  toFun p := (peer p.1 p.2, y p.1)
  invFun p := (peer p.1 p.2, y p.1)
  left_inv p := by simp only [peer_back, y_peer]
  right_inv p := by simp only [peer_back, y_peer]

/-! ## The memory and the semaphores -/

/-- A slot lies in the landing buffer. -/
theorem slot_inb (j : Fin 4) : ∀ a, (![j.val, 0, 0, 0] : Fin 4 → Nat) a + S1x8x9x64.size a ≤ S4x8x9x64.size a := by
  revert j; decide
/-- Four semaphores of each kind. -/
theorem sem_inb (j : Fin 4) : ∀ a, (![j.val] : Fin 1 → Nat) a + S1.size a ≤ S4.size a := by
  revert j; decide

/-- The device's own partial sums, and the landing buffer. -/
abbrev sM : Memref sig .tc .vmem S8x9x64 .f32 := Memref.whole cc0_scratch0
/-- The landing buffer. -/
abbrev cM : Memref sig .tc .vmem S4x8x9x64 .f32 := Memref.whole cc0_scratch1
/-- Slot `j` of the landing buffer. -/
abbrev slotR (j : Fin 4) : Rect S4x8x9x64 := Rect.unit (s := S4x8x9x64) ![j.val, 0, 0, 0] S1x8x9x64.size (slot_inb j)
/-- The slot in the shape of the partial sums. -/
abbrev slotM (j : Fin 4) : Memref sig .tc .vmem S8x9x64 .f32 :=
  (cM.slice (slotR j) (fun _ => rfl)).squeeze S8x9x64 squeezes_S1x8x9x64_S8x9x64

/-- The barrier semaphore; the send semaphores; the receive semaphores. -/
abbrev barS : Sem sig := (SemArray.scalar (sig.barrier 0 rfl) : Sems sig S_).sem
/-- The semaphore of the departure of the transfer to `y = j`. -/
abbrev sendS (j : Fin 4) : DmaSem sig :=
  ((cc0_scratch2.slice (Rect.unit (s := S4) ![j.val] S1.size (sem_inb j))).squeeze S_ squeezes_S1_S_ : DmaSems sig S_).sem
/-- The semaphore of the landing in slot `j`. -/
abbrev recvS (j : Fin 4) : DmaSem sig :=
  ((cc0_scratch3.slice (Rect.unit (s := S4) ![j.val] S1.size (sem_inb j))).squeeze S_ squeezes_S1_S_ : DmaSems sig S_).sem

/-- A device's barrier cell. -/
abbrev barCell (c : Dev nD) : GSem nD τ sig := ((c : Thread nD τ), .reg barS)
/-- A device's send cells. -/
abbrev sendCell (c : Dev nD) (j : Fin 4) : GSem nD τ sig := ((c : Thread nD τ), .dma (sendS j))
/-- A device's receive cells. -/
abbrev recvCell (c : Dev nD) (j : Fin 4) : GSem nD τ sig := ((c : Thread nD τ), .dma (recvS j))

/-- The send semaphores are different from each other. -/
theorem sendS_inj {i j : Fin 4} (h : sendS i = sendS j) : i = j := by revert i j; decide
/-- So are the receive semaphores. -/
theorem recvS_inj {i j : Fin 4} (h : recvS i = recvS j) : i = j := by revert i j; decide
/-- No send semaphore is a receive semaphore. -/
theorem send_ne_recv (i j : Fin 4) : sendS i ≠ recvS j := by revert i j; decide

/-- What one transfer of a device's partial sums counts for. -/
abbrev N : ℕ := (sM : Memref sig .tc .vmem S8x9x64 .f32).view.dmaCredit
/-- A transfer counts for something. -/
theorem N_pos : 0 < N := View.dmaCredit_pos _ (by decide)

/-! ## Contents -/

/-- Device `c`'s blocks of the three inputs. -/
def qstg (c : Dev nD) : (cc0_stg0_0 : Ref sig .tc).ty.Contents (Elt F) :=
  (win0_0.blk (0 : Fin 1)).view.read (Elt F) ((s₀ m ρ).mem ((c : Thread nD τ).loc main_arg0))
/-- Its block of K. -/
def kstg (c : Dev nD) : (cc0_stg1_0 : Ref sig .tc).ty.Contents (Elt F) :=
  (win0_1.blk (0 : Fin 1)).view.read (Elt F) ((s₀ m ρ).mem ((c : Thread nD τ).loc main_arg1))
/-- Its block of V. -/
def vstg (c : Dev nD) : (cc0_stg2_0 : Ref sig .tc).ty.Contents (Elt F) :=
  (win0_2.blk (0 : Fin 1)).view.read (Elt F) ((s₀ m ρ).mem ((c : Thread nD τ).loc main_arg2))

/-- The two parts of the partial sums that the kernel stores: rows 0 to 7, and the first eight places of row 8. -/
abbrev rowsR : Rect S8x9x64 := Rect.unit (s := S8x9x64) ![0, 0, 0] S8x8x64.size inb_S8x9x64_S8x8x64_0_0_0
/-- The first eight places of row 8. -/
abbrev denR : Rect S8x9x64 := Rect.unit (s := S8x9x64) ![0, 8, 0] S8x1x8.size inb_S8x9x64_S8x1x8_0_8_0

/-- The partial sums' buffer after the two stores over `g`. -/
def selfC (c : Dev nD) (g : (cc0_scratch0 : Ref sig .tc).ty.Contents (Elt F)) : (cc0_scratch0 : Ref sig .tc).ty.Contents (Elt F) :=
  (sM.access denR : View sig .tc _ _ _).write (Elt F)
    ((sM.access rowsR : View sig .tc _ _ _).write (Elt F) g (k0_pay5 (k0_pay3 (qstg m ρ c)) (kstg m ρ c) (vstg m ρ c)) Finset.univ)
    (k0_pay6 (k0_pay3 (qstg m ρ c)) (kstg m ρ c)) Finset.univ

/-- The float zero that the landing buffer is cleared to. -/
def zf : F .f32 := Scalar.ofBits .f32 0x00000000#32

/-- The places that the two stores fill. -/
def Good (i : S8x9x64.Idx) : Prop := (i 1).val < 8 ∨ (i 2).val < 8
/-- Two arrays that agree there. -/
def Agree (u v : S8x9x64.Idx → F .f32) : Prop := ∀ i, Good i → u i = v i

/-- Device `c`'s partial sums, and what it finds in slot `k`: `peer c k`'s, or zeros in its own. -/
def selfV (c : Dev nD) : S8x9x64.Idx → F .f32 := selfC m ρ c (fun _ => zf)
/-- What device `c` finds in slot `k` after the landings. -/
def slotV (c : Dev nD) (k : Fin 4) : S8x9x64.Idx → F .f32 := if k = y c then fun _ => zf else selfV m ρ (peer c k)

omit [FloatOps F] in
/-- Agreement is reflexive, -/
theorem Agree.refl (u : S8x9x64.Idx → F .f32) : Agree u u := fun _ _ => rfl
omit [FloatOps F] in
/-- symmetric -/
theorem Agree.symm {u v : S8x9x64.Idx → F .f32} (h : Agree u v) : Agree v u := fun i hi => (h i hi).symm
omit [FloatOps F] in
/-- and transitive. -/
theorem Agree.trans {u v w : S8x9x64.Idx → F .f32} (h : Agree u v) (h' : Agree v w) : Agree u w := fun i hi => (h i hi).trans (h' i hi)

/-- Memory held: a slot of a device's landing buffer, and a share of a device's partial sums. -/
def slotPts (c : Dev nD) (j : Fin 4) (f : Buf (Elt F) ((slotM j).view.loc (c : Thread nD τ))) : sProp 𝕄 :=
  (slotM j).view.loc (c : Thread nD τ) ↦[(slotM j).view.set]{fullShare} f
/-- A share `q` of a device's partial sums. -/
def selfPts (c : Dev nD) (q : PosShare TreeShare) (f : Buf (Elt F) ((sM : Memref sig .tc .vmem S8x9x64 .f32).view.loc (c : Thread nD τ))) : sProp 𝕄 :=
  (sM : Memref sig .tc .vmem S8x9x64 .f32).view.loc (c : Thread nD τ) ↦[(sM : Memref sig .tc .vmem S8x9x64 .f32).view.set]{q} f

omit [FloatOps F] in
/-- A slot may be handed over with a signal. -/
instance slotPts_storable (c : Dev nD) (j f) : BI.Storable (upEmb : UEmb _ 𝕄) (slotPts (F := F) c j f) := by unfold slotPts; infer_instance
omit [FloatOps F] in
/-- So may a share of the partial sums. -/
instance selfPts_storable (c : Dev nD) (q f) : BI.Storable (upEmb : UEmb _ 𝕄) (selfPts (F := F) c q f) := by unfold selfPts; infer_instance

/-! ## The schedule -/

/-- With the ready unit of `peer c k` comes slot `y c` of its landing buffer; -/
def slotEx (c : Dev nD) (j : Fin 4) : sProp 𝕄 := iprop(∃ f, slotPts c j f)
/-- What comes with `peer c k`'s ready unit. -/
def barPay (c : Dev nD) (k : Fin 4) : sProp 𝕄 := slotEx (peer c k) (y c)
/-- with the landing in slot `k`, that slot, holding `peer c k`'s partial sums; -/
def recvPay (c : Dev nD) (k : Fin 4) : sProp 𝕄 :=
  iprop(∃ f, ⌜Agree ((slotM k).view.read (Elt F) f) (slotV m ρ c k)⌝ ∗ slotPts c k f)
/-- with the departure of transfer `k`, the share of the partial sums lent to it. -/
def sendPay (c : Dev nD) (k : Fin 4) : sProp 𝕄 := iprop(∃ f, selfPts c (Transfers.shareTok fullShare 4 k) f)

/-- One round. A device's barrier is paid once by each of the other three of its group; its send and receive semaphores
    `k`, for `k` other than its own `y`, once each. -/
def Rd : Rounds.Schedule (GSem nD τ sig) (Fin 4) 𝕄 where
  duties g r := if r = 0 ∧ g.1.2 = .tc
    then Finset.univ.filter fun k => k ≠ y g.1.1 ∧ (g.2 = .reg barS ∨ g.2 = .dma (sendS k) ∨ g.2 = .dma (recvS k)) else ∅
  unitless _ := False
  amount g _ _ := if g.2 = .reg barS then 1 else N
  payload g _ k :=
    if g.2 = .reg barS then barPay g.1.1 k
    else if g.2 = .dma (recvS k) then recvPay m ρ g.1.1 k
    else if g.2 = .dma (sendS k) then sendPay g.1.1 k
    else iprop(emp)
  amount_pos g _ _ _ := by
    by_cases h : g.2 = .reg barS
    · rw [if_pos h]; exact Nat.one_pos
    · rw [if_neg h]; exact N_pos

/-- All that the schedule hands over may be handed over. -/
instance Rd_payload_storable (g : GSem nD τ sig) (r : ℕ) (k : Fin 4) :
    BI.Storable (upEmb : UEmb _ 𝕄) ((Rd (F := F) m ρ).payload g r k) := by
  show BI.Storable upEmb (if g.2 = .reg barS then barPay g.1.1 k else if g.2 = .dma (recvS k) then recvPay m ρ g.1.1 k
    else if g.2 = .dma (sendS k) then sendPay g.1.1 k else iprop(emp))
  unfold barPay slotEx recvPay sendPay
  (repeat' split) <;> infer_instance

section Sched
variable (c : Dev nD) (k : Fin 4)

/-- The barrier is no transfer semaphore. -/
theorem dma_ne_bar (q : DmaSem sig) : (SemLoc.dma q : SemLoc sig) ≠ .reg barS := fun h => by cases h
/-- Transfer semaphores of the same place are the same. -/
theorem dma_inj {q q' : DmaSem sig} (h : (SemLoc.dma q : SemLoc sig) = .dma q') : q = q' := by cases h; rfl

/-- The barrier is paid by the other three. -/
theorem duties_bar : (Rd (F := F) m ρ).duties (barCell c) 0 = Finset.univ.filter (· ≠ y c) := by
  dsimp only [Rd]; rw [if_pos ⟨rfl, rfl⟩]
  exact Finset.filter_congr fun k _ => ⟨fun h => h.1, fun h => ⟨h, .inl rfl⟩⟩
/-- A send semaphore is paid once, the device's own never. -/
theorem duties_send : (Rd (F := F) m ρ).duties (sendCell c k) 0 = if k = y c then ∅ else {k} := by
  dsimp only [Rd]; rw [if_pos ⟨rfl, rfl⟩]
  ext j
  rw [Finset.mem_filter]
  constructor
  · rintro ⟨-, h, h' | h' | h'⟩
    · exact absurd h' (dma_ne_bar _)
    · have := sendS_inj (dma_inj h'); subst this; rw [if_neg h]; exact Finset.mem_singleton_self _
    · exact absurd (dma_inj h') (send_ne_recv _ _)
  · intro h
    by_cases hk : k = y c
    · rw [if_pos hk] at h; exact absurd h (Finset.notMem_empty _)
    · rw [if_neg hk, Finset.mem_singleton] at h; subst h; exact ⟨Finset.mem_univ _, hk, .inr (.inl rfl)⟩
/-- A receive semaphore is paid once, the device's own never. -/
theorem duties_recv : (Rd (F := F) m ρ).duties (recvCell c k) 0 = if k = y c then ∅ else {k} := by
  dsimp only [Rd]; rw [if_pos ⟨rfl, rfl⟩]
  ext j
  rw [Finset.mem_filter]
  constructor
  · rintro ⟨-, h, h' | h' | h'⟩
    · exact absurd h' (dma_ne_bar _)
    · exact absurd (dma_inj h').symm (send_ne_recv _ _)
    · have := recvS_inj (dma_inj h'); subst this; rw [if_neg h]; exact Finset.mem_singleton_self _
  · intro h
    by_cases hk : k = y c
    · rw [if_pos hk] at h; exact absurd h (Finset.notMem_empty _)
    · rw [if_neg hk, Finset.mem_singleton] at h; subst h; exact ⟨Finset.mem_univ _, hk, .inr (.inr rfl)⟩
/-- There is one round only. -/
theorem duties_later (g : GSem nD τ sig) : ∀ r, 1 ≤ r → (Rd (F := F) m ρ).duties g r = ∅ :=
  fun r hr => by dsimp only [Rd]; rw [if_neg fun h => by omega]
/-- A semaphore with no duty in round 0 has none at all. -/
theorem duties_none (g : GSem nD τ sig) (h : (Rd (F := F) m ρ).duties g 0 = ∅) : ∀ r, 0 ≤ r → (Rd (F := F) m ρ).duties g r = ∅ :=
  fun r _ => by
    rcases Nat.eq_zero_or_pos r with rfl | hr
    · exact h
    · exact duties_later m ρ g r hr

/-- A ready signal is one unit. -/
theorem amount_bar (d : Fin 4) : (Rd (F := F) m ρ).amount (barCell c) 0 d = 1 := by dsimp only [Rd]; exact if_pos rfl
/-- A departure or a landing is a whole transfer. -/
theorem amount_dma (q : DmaSem sig) (d : Fin 4) : (Rd (F := F) m ρ).amount ((c : Thread nD τ), .dma q) 0 d = N := by
  dsimp only [Rd]; exact if_neg (dma_ne_bar _)

/-- There are three others. -/
theorem card_others (j : Fin 4) : (Finset.univ.filter (· ≠ j)).card = 3 := by revert j; decide

/-- Three units are waited for at the barrier, -/
theorem expect_bar : (Rd (F := F) m ρ).expect (barCell c) 0 = 3 := by
  unfold Schedule.expect Schedule.amountOf
  rw [duties_bar, Finset.sum_congr rfl fun d _ => amount_bar m ρ c d, Finset.sum_const, card_others, smul_eq_mul]
/-- a whole transfer at a send semaphore -/
theorem expect_send (h : k ≠ y c) : (Rd (F := F) m ρ).expect (sendCell c k) 0 = N := by
  unfold Schedule.expect Schedule.amountOf; rw [duties_send, if_neg h, Finset.sum_singleton, amount_dma]
/-- and at a receive semaphore. -/
theorem expect_recv (h : k ≠ y c) : (Rd (F := F) m ρ).expect (recvCell c k) 0 = N := by
  unfold Schedule.expect Schedule.amountOf; rw [duties_recv, if_neg h, Finset.sum_singleton, amount_dma]

/-- What a ready unit brings. -/
theorem payload_bar (d : Fin 4) : (Rd (F := F) m ρ).payload (barCell c) 0 d = barPay c d := by dsimp only [Rd]; rw [if_pos rfl]
/-- What a landing brings. -/
theorem payload_recv : (Rd (F := F) m ρ).payload (recvCell c k) 0 k = recvPay m ρ c k := by
  dsimp only [Rd]; rw [if_neg (dma_ne_bar _), if_pos rfl]
/-- What a departure brings. -/
theorem payload_send : (Rd (F := F) m ρ).payload (sendCell c k) 0 k = sendPay c k := by
  dsimp only [Rd]; rw [if_neg (dma_ne_bar _), if_neg (fun h => send_ne_recv _ _ (dma_inj h)), if_pos rfl]

/-- What the three ready units bring: a slot of each of the other three. -/
theorem rest_bar : bigSep ((Rd (F := F) m ρ).duties (barCell c) 0 \ ∅) (fun d => (Rd (F := F) m ρ).payload (barCell c) 0 d)
    = bigSep Finset.univ fun k : Fin 4 => if k ≠ y c then barPay c k else iprop(emp) := by
  rw [Finset.sdiff_empty, duties_bar, bigSep_filter]
  exact bigSep_congr fun k _ => by rw [payload_bar]; rfl
/-- What the wait at a send semaphore brings. -/
theorem rest_send (h : k ≠ y c) :
    bigSep ((Rd (F := F) m ρ).duties (sendCell c k) 0 \ ∅) (fun d => (Rd (F := F) m ρ).payload (sendCell c k) 0 d) = sendPay c k := by
  rw [Finset.sdiff_empty, duties_send, if_neg h, bigSep_singleton, payload_send]
/-- What the wait at a receive semaphore brings. -/
theorem rest_recv (h : k ≠ y c) :
    bigSep ((Rd (F := F) m ρ).duties (recvCell c k) 0 \ ∅) (fun d => (Rd (F := F) m ρ).payload (recvCell c k) 0 d) = recvPay m ρ c k := by
  rw [Finset.sdiff_empty, duties_recv, if_neg h, bigSep_singleton, payload_recv]

end Sched

/-! ## What each device owes at launch; the levels -/

/-- What device `c` owes its `y = k` neighbour: the landing of its partial sums there, and the ready unit. -/
def tR (c : Dev nD) (k : Fin 4) : CellTallies nD τ sig Unit := if k = y c then 0 else tallyAt (recvCell (peer c k) (y c)) () N
/-- The ready unit owed to it. -/
def tB (c : Dev nD) (k : Fin 4) : CellTallies nD τ sig Unit := if k = y c then 0 else tallyAt (barCell (peer c k)) () 1

/-- The landings owed, the last to be made first in the sum; with the ready units. -/
def OR (c : Dev nD) : CellTallies nD τ sig Unit := 0 + tR c 3 + tR c 2 + tR c 1 + tR c 0
/-- All that is owed at launch: the landings and the ready units. -/
def O₀ (c : Dev nD) : CellTallies nD τ sig Unit := OR c + tB c 3 + tB c 2 + tB c 1 + tB c 0

/-- Every semaphore of a main core has a level. -/
def L (g : GSem nD τ sig) : Finset Unit := if g.1.2 = .tc then {()} else ∅
/-- The barrier below the receive semaphores; all others at the bottom. -/
def lv (g : GSem nD τ sig) (_ : Unit) : ℕ := if g.2 = .reg barS then 1 else if ∃ k, g.2 = .dma (recvS k) then 2 else 0

/-- No other semaphore has one. -/
theorem L_of_ne (g : GSem nD τ sig) (h : g.1.2 ≠ .tc) : L g = ∅ := if_neg h
/-- Every semaphore of a main core has one. -/
theorem L_tc (c : Dev nD) (sm : SemLoc sig) : L ((c : Thread nD τ), sm) = {()} := if_pos rfl
/-- The level of the barrier. -/
theorem lv_bar (c : Dev nD) (u : Unit) : lv (barCell c) u = 1 := if_pos rfl
/-- The level of a receive semaphore. -/
theorem lv_recv (c : Dev nD) (k : Fin 4) (u : Unit) : lv (recvCell c k) u = 2 := by
  unfold lv; rw [if_neg (dma_ne_bar _), if_pos ⟨k, rfl⟩]

/-- A landing is owed to a receive cell only, -/
theorem tR_pos {c : Dev nD} {k : Fin 4} {g : GSem nD τ sig} {u : Unit} (h : 0 < tR c k g u) : ∃ d j, g = recvCell d j := by
  unfold tR at h
  by_cases hk : k = y c
  · rw [if_pos hk] at h; exact absurd h (Nat.lt_irrefl 0)
  · rw [if_neg hk, tallyAt_apply] at h
    by_cases hg : g = recvCell (peer c k) (y c) ∧ u = ()
    · exact ⟨_, _, hg.1⟩
    · rw [if_neg hg] at h; exact absurd h (Nat.lt_irrefl 0)
/-- a ready unit to a barrier only. -/
theorem tB_pos {c : Dev nD} {k : Fin 4} {g : GSem nD τ sig} {u : Unit} (h : 0 < tB c k g u) : ∃ d, g = barCell d := by
  unfold tB at h
  by_cases hk : k = y c
  · rw [if_pos hk] at h; exact absurd h (Nat.lt_irrefl 0)
  · rw [if_neg hk, tallyAt_apply] at h
    by_cases hg : g = barCell (peer c k) ∧ u = ()
    · exact ⟨_, hg.1⟩
    · rw [if_neg hg] at h; exact absurd h (Nat.lt_irrefl 0)

/-- What is owed in a sum is owed in one of its parts. -/
theorem add_pos_or {A B : CellTallies nD τ sig Unit} {g : GSem nD τ sig} {u : Unit} (h : 0 < (A + B) g u) : 0 < A g u ∨ 0 < B g u := by
  rw [Pi.add_apply, Finsupp.add_apply] at h; omega

/-- The landings are owed to receive cells only. -/
theorem OR_pos {c : Dev nD} {g : GSem nD τ sig} {u : Unit} (h : 0 < OR c g u) : ∃ d j, g = recvCell d j := by
  unfold OR at h
  rcases add_pos_or h with h | h
  · rcases add_pos_or h with h | h
    · rcases add_pos_or h with h | h
      · rcases add_pos_or h with h | h
        · exact absurd h (Nat.lt_irrefl 0)
        · exact tR_pos h
      · exact tR_pos h
    · exact tR_pos h
  · exact tR_pos h
/-- All that is owed at launch is owed to receive cells and barriers. -/
theorem O₀_pos {c : Dev nD} {g : GSem nD τ sig} {u : Unit} (h : 0 < O₀ c g u) : (∃ d j, g = recvCell d j) ∨ ∃ d, g = barCell d := by
  unfold O₀ at h
  rcases add_pos_or h with h | h
  · rcases add_pos_or h with h | h
    · rcases add_pos_or h with h | h
      · rcases add_pos_or h with h | h
        · exact .inl (OR_pos h)
        · exact .inr (tB_pos h)
      · exact .inr (tB_pos h)
    · exact .inr (tB_pos h)
  · exact .inr (tB_pos h)

/-- A staging semaphore may be waited on at the start and at the end: it lies below all that is owed. -/
theorem mayWait_stage (c : Dev nD) (q : DmaSem sig) (hq : ∀ k, q ≠ recvS k) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨_, _, rfl⟩ | ⟨_, rfl⟩ <;> exact Finset.mem_singleton_self _)
      (fun p hp => by
        rw [Finset.mem_singleton.mp hp]; dsimp only [lv]
        rw [if_neg (dma_ne_bar q), if_neg (fun ⟨k, hk⟩ => hq k (dma_inj hk))])
      (fun g u hg => by
        rcases O₀_pos hg with ⟨_, _, rfl⟩ | ⟨_, rfl⟩
        · rw [lv_recv]; decide
        · rw [lv_bar]; decide)
  · rw [MayWait_zero]; iintro -; iempintro

/-- At the barrier a device owes landings only, which lie above it. -/
theorem mayWait_bar (c : Dev nD) : (levAts L lv : sProp 𝕄) ⊢ MayWait (c : Thread nD τ) (.reg barS) () (OR c) :=
  MayOwe.of_cut (L := L) (lev := lv) 1 (fun p hp => by rw [Finset.mem_singleton.mp hp, L_tc]; exact Finset.mem_singleton_self _)
    (fun g u hg => by obtain ⟨_, _, rfl⟩ := OR_pos hg; exact Finset.mem_singleton_self _)
    (fun p hp => by rw [Finset.mem_singleton.mp hp, lv_bar])
    (fun g u hg => by obtain ⟨_, _, rfl⟩ := OR_pos hg; rw [lv_recv]; decide)

/-! ## The records: every cell's invariant and that round 0 is reached, shared by all devices -/

/-- A device's nine cells: its barrier, its four send and its four receive semaphores. -/
abbrev CellIx : Type := Unit ⊕ Fin 4 ⊕ Fin 4
/-- The semaphore of each. -/
abbrev csem : CellIx → SemLoc sig
  | .inl _ => .reg barS
  | .inr (.inl j) => .dma (sendS j)
  | .inr (.inr j) => .dma (recvS j)
/-- The cell of each, on a device. -/
abbrev kcell (ck : Dev nD × CellIx) : GSem nD τ sig := ((ck.1 : Thread nD τ), csem ck.2)
/-- The barrier among the nine. -/
abbrev iB : CellIx := .inl ()
/-- The send semaphores among the nine. -/
abbrev iS (j : Fin 4) : CellIx := .inr (.inl j)
/-- The receive semaphores among the nine. -/
abbrev iV (j : Fin 4) : CellIx := .inr (.inr j)

/-- The invariants, under the names `K` they were allocated at, and the marks. -/
def records (K : Dev nD × CellIx → ℕ) : sProp 𝕄 :=
  iprop((bigSep Finset.univ fun ck : Dev nD × CellIx => cellInv ER (Rd m ρ) (K ck) (kcell ck))
    ∗ bigSep Finset.univ fun ck : Dev nD × CellIx => reached ER (kcell ck) 0)

/-- The records may be used as often as wanted. -/
instance records_persistent (K : Dev nD × CellIx → ℕ) : BI.Persistent (records m ρ K) := by unfold records; infer_instance

/-- One cell's invariant out of the records. -/
theorem inv_at (K : Dev nD × CellIx → ℕ) (ck : Dev nD × CellIx) : records m ρ K ⊢ cellInv ER (Rd m ρ) (K ck) (kcell ck) := by
  unfold records; iintro ⟨H, -⟩
  iapply (show (bigSep Finset.univ fun ck : Dev nD × CellIx => (cellInv ER (Rd m ρ) (K ck) (kcell ck) : sProp 𝕄)) ⊢ cellInv ER (Rd m ρ) (K ck) (kcell ck) from
    bigSep_elim (Finset.mem_univ ck))
  iexact H
/-- One cell's mark out of the records. -/
theorem reached_at (K : Dev nD × CellIx → ℕ) (ck : Dev nD × CellIx) : records m ρ K ⊢ (reached ER (kcell ck) 0 : sProp 𝕄) := by
  unfold records; iintro ⟨-, H⟩
  iapply (show (bigSep Finset.univ fun ck : Dev nD × CellIx => (reached ER (kcell ck) 0 : sProp 𝕄)) ⊢ reached ER (kcell ck) 0 from
    bigSep_elim (Finset.mem_univ ck))
  iexact H

/-- The tokens with which device `c` pays towards `y = k`: the ready unit, the landing, and its own departure. -/
def payToks (c : Dev nD) (k : Fin 4) : sProp 𝕄 :=
  iprop(dutyTok ER (barCell (peer c k)) 0 (y c) ∗ dutyTok ER (recvCell (peer c k) (y c)) 0 (y c) ∗ dutyTok ER (sendCell c k) 0 k)

end Cert.Exchange

end
-- ==== Proof.Contents.lean ====
/- What the buffers hold: the partial sums after the two stores, a slot of the landing buffer as it is read, and the output computed
   from the device's own partial sums and the four slots. -/
module

public import proofs.«01_k».proof.Proof.Protocol
public import Idealize.ShloMosaic.Lib.Writes
public import Idealize.ShloMosaic.Lib.ValueIdx

@[expose] public section

set_option maxRecDepth 16384

noncomputable section

namespace Cert.Exchange

open Cert.KernelIdeal Cert.KernelIdeal.Gen
open Idealize.ShloMosaic Idealize.ShloMosaic.TcCoe Idealize.ShloMosaic.ValueIdx Idealize.SL

variable {F : FTy → Type} [FloatOps F]
variable (m : (ℓ : Loc nD τ sig) → Buf (Elt F) ℓ) (ρ : Dev nD → PrngReg)

/-! ## The partial sums -/

/-- The two stores as a list of writes, the later first. -/
theorem selfC_writes (c : Dev nD) (g : (cc0_scratch0 : Ref sig .tc).ty.Contents (Elt F)) :
    selfC m ρ c g = (sM : Memref sig .tc .vmem S8x9x64 .f32).view.read (Elt F)
      ((sM : Memref sig .tc .vmem S8x9x64 .f32).view.writes (Elt F) g
        [⟨denR, k0_pay6 (k0_pay3 (qstg m ρ c)) (kstg m ρ c)⟩, ⟨rowsR, k0_pay5 (k0_pay3 (qstg m ρ c)) (kstg m ρ c) (vstg m ρ c)⟩]) := rfl

/-- Rows 0 to 7 hold the weighted sums, -/
theorem selfC_row (c : Dev nD) (g : (cc0_scratch0 : Ref sig .tc).ty.Contents (Elt F)) (i : S8x9x64.Idx) (j : S8x8x64.Idx)
    (h : ∀ a, (i a).val = (j a).val) : selfC m ρ c g i = k0_pay5 (k0_pay3 (qstg m ρ c)) (kstg m ρ c) (vstg m ρ c) j := by
  rw [selfC_writes]
  rw [View.read_writes_cons_miss_of_axis _ _ _ _ _ (1 : Fin 3) 8 1 rfl rfl rfl (.inl (by rw [h 1]; exact (j 1).isLt))]
  exact View.read_writes_cons_hit_of_coords _ _ _ _ _ _ _ fun a => by
    rw [h a]; fin_cases a <;> simp [rowsR, Rect.unit]

/-- and the first eight places of row 8 the sums of the weights; the rest is whatever was there. -/
theorem selfC_den (c : Dev nD) (g : (cc0_scratch0 : Ref sig .tc).ty.Contents (Elt F)) (i : S8x9x64.Idx) (j : S8x1x8.Idx)
    (h₀ : (i 0).val = (j 0).val) (h₁ : (i 1).val = 8) (h₂ : (i 2).val = (j 2).val) :
    selfC m ρ c g i = k0_pay6 (k0_pay3 (qstg m ρ c)) (kstg m ρ c) j := by
  rw [selfC_writes]
  have h1 : (j 1).val = 0 := Nat.lt_one_iff.mp (j 1).isLt
  exact View.read_writes_cons_hit_of_coords _ _ _ _ _ _ _ fun a => by
    fin_cases a <;> simp [denR, Rect.unit, h₀, h₁, h₂, h1]

/-- What the stores fill does not depend on what was there. -/
theorem selfC_agree (c : Dev nD) (g g' : (cc0_scratch0 : Ref sig .tc).ty.Contents (Elt F)) : Agree (selfC m ρ c g) (selfC m ρ c g') := by
  intro i hi
  have h1 : (i 1).val < 9 := (i 1).isLt
  by_cases h : (i 1).val < 8
  · rw [selfC_row m ρ c g i (ix3 (i 0) ⟨(i 1).val, h⟩ (i 2)) (fun a => by fin_cases a <;> rfl),
      selfC_row m ρ c g' i (ix3 (i 0) ⟨(i 1).val, h⟩ (i 2)) (fun a => by fin_cases a <;> rfl)]
  · have h2 : (i 2).val < 8 := hi.resolve_left h
    rw [selfC_den m ρ c g i (ix3 (i 0) 0 ⟨(i 2).val, h2⟩) rfl (by omega) rfl,
      selfC_den m ρ c g' i (ix3 (i 0) 0 ⟨(i 2).val, h2⟩) rfl (by omega) rfl]

/-! ## The output -/

/-- The last step: rows 0 to 7 divided by row 8, query head by query head. -/
def finish (u : FVec F S8x9x64 .f32) : FVec F S8x1x8x64 .f32 :=
  shapeCast S8x1x8x64
    (divf (extractStridedSlice S8x8x64 ![0, 0, 0] u slices_S8x9x64_o0_0_0_S8x8x64)
      (broadcastTo S8x8x64 (shapeCast S8x8x1 (shapeCast S8x8 (extractStridedSlice S8x1x8 ![0, 8, 0] u slices_S8x9x64_o0_8_0_S8x1x8)
        shapeCasts_S8x1x8_S8x8) shapeCasts_S8x8_S8x8x1) broadcasts_S8x8x1_S8x8x64))
    shapeCasts_S8x8x64_S8x1x8x64

/-- It looks only at the places that the stores fill. -/
theorem finish_congr {u v : FVec F S8x9x64 .f32} (h : Agree u v) : finish u = finish v := by
  unfold finish
  rw [show extractStridedSlice S8x8x64 ![0, 0, 0] u slices_S8x9x64_o0_0_0_S8x8x64
        = extractStridedSlice S8x8x64 ![0, 0, 0] v slices_S8x9x64_o0_0_0_S8x8x64 from
      funext fun j => h _ (.inl (by have : (j 1).val < 8 := (j 1).isLt; show 0 + (j 1).val < 8; omega)),
    show extractStridedSlice S8x1x8 ![0, 8, 0] u slices_S8x9x64_o0_8_0_S8x1x8
        = extractStridedSlice S8x1x8 ![0, 8, 0] v slices_S8x9x64_o0_8_0_S8x1x8 from
      funext fun j => h _ (.inr (by have : (j 2).val < 8 := (j 2).isLt; show 0 + (j 2).val < 8; omega))]

/-- Sums of arrays that agree agree. -/
theorem Agree.add {u u' v v' : FVec F S8x9x64 .f32} (h : Agree u u') (h' : Agree v v') : Agree (addf u v) (addf u' v') := fun i hi => by
  show FloatOps.addf (u i) (v i) = FloatOps.addf (u' i) (v' i)
  rw [h i hi, h' i hi]

/-- The device's own partial sums and the four slots, added up in the kernel's order. -/
def total (c : Dev nD) : FVec F S8x9x64 .f32 :=
  addf (addf (addf (addf (selfV m ρ c) (slotV m ρ c 0)) (slotV m ρ c 1)) (slotV m ρ c 2)) (slotV m ρ c 3)

/-- The output block of device `c`. -/
def outAt (c : Dev nD) : (cc0_stg3_0 : Ref sig .tc).ty.Contents (Elt F) := finish (total m ρ c)

/-- A slot as a load finds it. -/
abbrev slotLd (k : Fin 4) (f : (cc0_scratch1 : Ref sig .tc).ty.Contents (Elt F)) : Vec F S1x8x9x64 .f32 :=
  (cM : Memref sig .tc .vmem S4x8x9x64 .f32).view.readAt (Elt F) (slotR k).toLoadRect f

/-- What the kernel stores, from its partial sums and the slots as they are read. -/
theorem out_eq (c : Dev nD) {u : (cc0_scratch0 : Ref sig .tc).ty.Contents (Elt F)} {f : Fin 4 → (cc0_scratch1 : Ref sig .tc).ty.Contents (Elt F)}
    (hu : Agree u (selfV m ρ c)) (hf : ∀ k, Agree ((slotM k).view.read (Elt F) (f k)) (slotV m ρ c k)) :
    k0_pay1 (k0_pay7 u (slotLd 0 (f 0)) (slotLd 1 (f 1))) (slotLd 2 (f 2)) (slotLd 3 (f 3)) = outAt m ρ c :=
  show finish (addf (addf (addf (addf u ((slotM 0).view.read (Elt F) (f 0))) ((slotM 1).view.read (Elt F) (f 1)))
      ((slotM 2).view.read (Elt F) (f 2))) ((slotM 3).view.read (Elt F) (f 3))) = _ from
    finish_congr ((((hu.add (hf 0)).add (hf 1)).add (hf 2)).add (hf 3))

/-- A slot of the cleared landing buffer reads zero. -/
theorem cleared (k : Fin 4) : Agree ((slotM k).view.read (Elt F) (k0_pay2 (F := F))) (fun _ => zf) := fun _ _ => rfl

/-! ## Whole buffers -/

omit [FloatOps F] in
/-- The origin of a four-dimensional array, as a constant function. -/
theorem hz4 : (![0, 0, 0, 0] : Fin 4 → Nat) = fun _ => 0 := funext fun a => by fin_cases a <;> rfl
omit [FloatOps F] in
/-- The same in three dimensions. -/
theorem hz3 : (![0, 0, 0] : Fin 3 → Nat) = fun _ => 0 := funext fun a => by fin_cases a <;> rfl

end Cert.Exchange

end
-- ==== Proof.Steps.lean ====
/-
# The body's guarded steps

The kernel's signals, transfers and waits each run once for each `k` from 0 to 3 and only where `k` is not the device's own
`y`. Each step is proved here once, at a symbolic device and a symbolic `k`, with the guard any proposition that says so.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The program has no loop that needs a variant. -/
abbrev 𝒱₀ : Variants := Variants.none

/-- What a device owes, whatever waits it has done. -/
def owesE (c : Dev nD) (O : CellTallies nD τ sig Unit) : sProp 𝕄 := iprop(∃ W, owes (c : Thread nD τ) O W)

/-- The run of a program on device `c` to `Φ`. -/
abbrev runs (c : Dev nD) {α : Type} (p : Prog (TpuEff nD τ sig (Elt F) Λ₀ .tc) α) (Φ : α → sProp 𝕄) : sProp 𝕄 :=
  wp frame (wpE (defs₀ (F := F)) 𝒱₀ (c : Thread nD τ) none) Set.univ p Φ

/-- A program that returns at once. -/
theorem runs_ret (c : Dev nD) {α : Type} (a : α) (Φ : α → sProp 𝕄) : Φ a ⊢ runs c (Prog.ret a) Φ := by
  unfold runs; rw [wp_ret]; iintro H; imodintro; iexact H

/-- One program after another. -/
theorem runs_bind (c : Dev nD) {α β : Type} (p : Prog (TpuEff nD τ sig (Elt F) Λ₀ .tc) α) (k : α → Prog (TpuEff nD τ sig (Elt F) Λ₀ .tc) β)
    (Φ : β → sProp 𝕄) : runs c p (fun a => runs c (k a) Φ) ⊢ runs c (p >>= k) Φ :=
  Entails.of_eq (wp_bind _ _ _ p k Φ).symm

/-- A guarded step, and then the rest. -/
theorem runs_guard (c : Dev nD) {P : Prop} [Decidable P] {β : Type} (X : P → Prog (TpuEff nD τ sig (Elt F) Λ₀ .tc) PUnit)
    (Y : Prog (TpuEff nD τ sig (Elt F) Λ₀ .tc) β) (Φ : β → sProp 𝕄) :
    runs c (dite P X (fun _ => pure PUnit.unit)) (fun _ => runs c Y Φ) ⊢ runs c (dite P (fun h => X h >>= fun _ => Y) (fun _ => Y)) Φ := by
  by_cases h : P
  · rw [dif_pos h, dif_pos h]; exact runs_bind c (X h) (fun _ => Y) Φ
  · rw [dif_neg h, dif_neg h]
    refine (Entails.of_eq (wp_bind _ _ _ (pure PUnit.unit) (fun _ : PUnit => Y) Φ).symm).trans ?_
    rw [Prog.pure_eq_ret, Prog.bind_ret]

/-- A guarded step does nothing where the guard fails. -/
theorem runs_skip (c : Dev nD) {P : Prop} [Decidable P] (h : ¬ P) {b : P → Prog (TpuEff nD τ sig (Elt F) Λ₀ .tc) PUnit} (Φ : PUnit → sProp 𝕄) :
    Φ ⟨⟩ ⊢ runs c (dite P b (fun _ => pure ⟨⟩)) Φ := by
  rw [dif_neg h]; exact runs_ret c PUnit.unit Φ

/-- The device reads its number. -/
theorem runs_device (c : Dev nD) (Φ : Dev nD → sProp 𝕄) : Φ c ⊢ runs c (Prog.lift .deviceId) Φ := by
  unfold runs Prog.lift; rw [wp_deviceId]; exact runs_ret c c Φ

/-- A load of elements that are held. -/
theorem runs_load (c : Dev nD) {s : Shape} {e : EltTy} {M : Memref sig .tc .vmem s e} {r : LoadRect s} {hl : M.view.LoadsAt r}
    {S : Finset (Idx (M.view.loc (c : Thread nD τ)))} {q : PosShare TreeShare} {f : Buf (Elt F) (M.view.loc (c : Thread nD τ))}
    (hS : M.view.setOn r.set ⊆ S) {v : r.shape.Idx → Elt F e} (hv : M.view.readAt (Elt F) r f = v) {Φ : (r.shape.Idx → Elt F e) → sProp 𝕄} :
    (M.view.loc (c : Thread nD τ) ↦[S]{q} f)
      ⊢ iprop(((M.view.loc (c : Thread nD τ) ↦[S]{q} f) -∗ Φ v) -∗ runs c (Prog.lift (.load M r hl)) Φ) := by
  subst hv
  unfold Prog.lift
  iintro H Hk
  iapply (wp_load 𝒱₀ (c : Thread nD τ) none Set.univ (m := M) hS) $$ H
  iintro H
  iapply (runs_ret (F := F) c _ Φ)
  iapply Hk; iexact H

/-- A store into elements that are held outright. -/
theorem runs_store (c : Dev nD) {s : Shape} {e : EltTy} {M : Memref sig .tc .vmem s e} {r : Rect s} {w : r.shape.Idx → Elt F e}
    {hx : (M.access r).Stores Finset.univ} {hm : (Finset.univ : Finset r.shape.Idx) = Finset.univ ∨ ∀ a, r.stride a = 1}
    {S : Finset (Idx ((M.access r).loc (c : Thread nD τ)))} {f : Buf (Elt F) ((M.access r).loc (c : Thread nD τ))}
    (hS : (M.access r).setOn Finset.univ ⊆ S) {g : Buf (Elt F) ((M.access r).loc (c : Thread nD τ))}
    (hg : (M.access r).write (Elt F) f w Finset.univ = g) {Φ : PUnit → sProp 𝕄} :
    ((M.access r).loc (c : Thread nD τ) ↦[S]{fullShare} f)
      ⊢ iprop((((M.access r).loc (c : Thread nD τ) ↦[S]{fullShare} g) -∗ Φ ⟨⟩)
          -∗ runs (α := PUnit) c (Prog.lift (.store M r w Finset.univ hx hm)) Φ) := by
  subst hg
  unfold Prog.lift
  iintro H Hk
  iapply (wp_store 𝒱₀ (c : Thread nD τ) none Set.univ (m := M) hS) $$ H
  iintro H
  iapply (runs_ret (F := F) c _ Φ)
  iapply Hk; iexact H

section Steps

variable (K : Dev nD × CellIx → ℕ) (c : Dev nD) (k : Fin 4) {P : Prop} [Decidable P] (hP : P ↔ k ≠ y c)

include hP

/-- The ready signal to `peer c k`, which takes slot `k` of `c`'s landing buffer along. -/
theorem runs_signal {Φ : PUnit → sProp 𝕄} {dst : P → Dev nD} (hd : ∀ h, dst h = peer c k) (O : CellTallies nD τ sig Unit)
    (f : Buf (Elt F) ((slotM k).view.loc (c : Thread nD τ))) :
    iprop(records m ρ K ∗ owesE c (O + tB c k) ∗ dutyTok ER (barCell (peer c k)) 0 (y c) ∗ slotPts c k f)
      ⊢ iprop(((owesE c O ∗ (if k = y c then slotPts c k f else iprop(emp))) -∗ Φ ⟨⟩)
          -∗ runs (α := PUnit) c (dite P (fun h =>
                semSignalWord (dst h : Dev nD) barS 1#32) (fun _ => pure PUnit.unit)) Φ) := by
  by_cases h : P
  · have hk := hP.mp h
    rw [dif_pos h, if_neg hk, tB, if_neg hk, hd h]
    unfold owesE
    simp only [semSignalWord, Prog.lift, Prog.bind_op, Prog.bind_ret, Prog.pure_eq_ret]
    iintro ⟨#HR, ⟨%W, HO⟩, Htok, Hs⟩ Hk
    iapply (Rounds.wp_signal 𝒱₀ ER (Rd m ρ) (c : Thread nD τ) none (dst := (peer c k : Thread nD τ)) (κ := K (peer c k, iB))
        (d := y c) (by rw [duties_bar, Finset.mem_filter, y_peer]; exact ⟨Finset.mem_univ _, fun e => hk e.symm⟩)
        ((amount_bar m ρ (peer c k) (y c)).trans (by decide)) () O rfl)
      $$ [HO Htok Hs]
    · isplitr; · iapply (inv_at m ρ K (peer c k, iB)); iexact HR
      isplitl [HO]; · iexact HO
      isplitl [Htok]; · iexact Htok
      isplitl [Hs]
      · rw [payload_bar, barPay, peer_back, y_peer]; unfold slotEx; iexists f; iexact Hs
      · iapply (reached_at m ρ K (peer c k, iB)); iexact HR
    iintro HO
    iapply (runs_ret (F := F) c PUnit.unit Φ)
    iapply Hk
    isplitl [HO]
    · iexists W; iexact HO
    · iempintro
  · have hk : k = y c := by by_contra hk; exact h (hP.mpr hk)
    rw [if_pos hk, tB, if_pos hk, add_zero]
    iintro ⟨-, HO, -, Hs⟩ Hk
    iapply (runs_skip (F := F) c h Φ)
    iapply Hk
    isplitl [HO] <;> iassumption

set_option maxHeartbeats 400000 in
/-- The transfer to `peer c k` of a device with `k ≠ y c`: it lends a share of the partial sums and fills slot `y c` there. -/
theorem send_op {Φ : PUnit → sProp 𝕄} (hk : k ≠ y c) {dst : Dev nD} (hd : dst = peer c k)
    {o₁ : Fin 1 → Nat} (ho₁ : o₁ = ![(y c).val]) {i₁ : ∀ a, o₁ a + S1.size a ≤ S4.size a}
    {o : Fin 4 → Nat} (ho : o = ![(y c).val, 0, 0, 0]) {i : ∀ a, o a + S1x8x9x64.size a ≤ S4x8x9x64.size a}
    {hsc : (((cM.slice (Rect.unit (s := S4x8x9x64) o S1x8x9x64.size i) (fun _ => rfl)).squeeze S8x9x64 squeezes_S1x8x9x64_S8x9x64
        : Memref sig (Dev.tc dst : Thread nD τ).2.kind .vmem S8x9x64 .f32)).view.ref.isScScratch = false}
    {hsrc : sM.view.WordExact}
    {hdst : ((cM.slice (Rect.unit (s := S4x8x9x64) o S1x8x9x64.size i) (fun _ => rfl)).squeeze S8x9x64 squeezes_S1x8x9x64_S8x9x64).view.WordExact}
    {hsem : DmaTarget.Typed .vmem (.dma ((cc0_scratch3.slice (Rect.unit (s := S4) o₁ S1.size i₁)).squeeze S_ squeezes_S1_S_ : DmaSems sig S_).sem)
        (.remote (Dev.tc dst : Thread nD τ)
          ((cM.slice (Rect.unit (s := S4x8x9x64) o S1x8x9x64.size i) (fun _ => rfl)).squeeze S8x9x64 squeezes_S1x8x9x64_S8x9x64) (.dma (sendS k)) hsc)}
    (O : CellTallies nD τ sig Unit) (f : (cc0_scratch0 : Ref sig .tc).ty.Contents (Elt F)) (hf : Agree f (selfV m ρ c)) :
    iprop(records m ρ K ∗ owesE c (O + tallyAt (recvCell (peer c k) (y c)) () N) ∗ slotEx (F := F) (peer c k) (y c) ∗ selfPts c (Transfers.shareTok fullShare 4 k) f
        ∗ dutyTok ER (recvCell (peer c k) (y c)) 0 (y c) ∗ dutyTok ER (sendCell c k) 0 k)
      ⊢ iprop(((owesE c O ∗ cred (tallyAt (sendCell c k) () N)) -∗ Φ ⟨⟩)
          -∗ runs (α := PUnit) c (
                Prog.lift (.enqueueDma sM (.remote (Dev.tc dst)
                  ((cM.slice (Rect.unit (s := S4x8x9x64) o S1x8x9x64.size i) (fun _ => rfl)).squeeze S8x9x64 squeezes_S1x8x9x64_S8x9x64) (.dma (sendS k)) hsc)
                  (.dma ((cc0_scratch3.slice (Rect.unit (s := S4) o₁ S1.size i₁)).squeeze S_ squeezes_S1_S_ : DmaSems sig S_).sem)
                  hsrc hdst hsem)) Φ) := by
  clear hP
  subst hd ho₁ ho
  unfold owesE slotEx
  simp only [Prog.lift, Prog.bind_op, Prog.bind_ret, Prog.pure_eq_ret]
  iintro ⟨#HR, ⟨%W, HO⟩, ⟨%fd, Hd⟩, Hs, Ht₂, Ht₁⟩ Hk
  unfold slotPts selfPts
  iapply (Rounds.wp_send_pointsTo 𝒱₀ ER (Rd m ρ) (c : Thread nD τ) none (c' := (peer c k : Thread nD τ)) (src := sM) (dst := slotM (y c)) (sS := .dma (sendS k)) (sem := .dma (recvS (y c)))
      (κ₁ := K (c, iS k)) (κ₂ := K (peer c k, iV (y c)))
      (r₁ := 0) (r₂ := 0) (d₁ := k) (d₂ := y c) (fd := fd)
      (by rw [duties_send, if_neg hk]; exact Finset.mem_singleton_self _)
      (by rw [duties_recv, if_neg (by rw [y_peer]; exact fun e => hk e.symm)]; exact Finset.mem_singleton_self _)
      () () N (by rfl) (amount_dma m ρ c _ k) (amount_dma m ρ (peer c k) _ (y c)) O rfl (W := W)
      (by rw [payload_send]; unfold sendPay selfPts; iintro H; iexists f; iexact H)
      (by
        rw [payload_recv]; unfold recvPay slotPts
        iintro H; iexists _
        isplitr
        swap
        · iexact H
        ipureintro
        rw [View.read_write_univ, slotV, if_neg (by rw [y_peer]; exact fun e => hk e.symm), peer_back, View.read_whole]
        exact hf)) $$ [HO Hd Hs Ht₁ Ht₂]
  · isplitr; · iapply (inv_at m ρ K (c, iS k)); iexact HR
    isplitr; · iapply (inv_at m ρ K (peer c k, iV (y c))); iexact HR
    isplitl [Hs]; · iexact Hs
    isplitl [Hd]; · iexact Hd
    isplitl [HO]; · iexact HO
    isplitl [Ht₁]; · iexact Ht₁
    isplitr; · iapply (reached_at m ρ K (c, iS k)); iexact HR
    isplitl [Ht₂]; · iexact Ht₂
    iapply (reached_at m ρ K (peer c k, iV (y c))); iexact HR
  iintro ⟨Hc, HO⟩
  iapply (runs_ret (F := F) c PUnit.unit Φ)
  iapply Hk
  isplitl [HO]
  · iexists W; iexact HO
  · iexact Hc

/-- The guarded transfer to `peer c k`, at a device, a slot offset and a semaphore offset that the program computes. -/
theorem runs_send {Φ : PUnit → sProp 𝕄} {dst : P → Dev nD} (hd : ∀ h, dst h = peer c k)
    {o₁ : Fin 1 → Nat} (ho₁ : o₁ = ![(y c).val]) {i₁ : P → ∀ a, o₁ a + S1.size a ≤ S4.size a}
    {o : Fin 4 → Nat} (ho : o = ![(y c).val, 0, 0, 0]) {i : P → ∀ a, o a + S1x8x9x64.size a ≤ S4x8x9x64.size a}
    {hsc : ∀ h, (((cM.slice (Rect.unit (s := S4x8x9x64) o S1x8x9x64.size (i h)) (fun _ => rfl)).squeeze S8x9x64 squeezes_S1x8x9x64_S8x9x64
        : Memref sig (Dev.tc (dst h) : Thread nD τ).2.kind .vmem S8x9x64 .f32)).view.ref.isScScratch = false}
    {hsrc : P → sM.view.WordExact}
    {hdst : ∀ h, ((cM.slice (Rect.unit (s := S4x8x9x64) o S1x8x9x64.size (i h)) (fun _ => rfl)).squeeze S8x9x64 squeezes_S1x8x9x64_S8x9x64).view.WordExact}
    {hsem : ∀ h, DmaTarget.Typed .vmem (.dma ((cc0_scratch3.slice (Rect.unit (s := S4) o₁ S1.size (i₁ h))).squeeze S_ squeezes_S1_S_ : DmaSems sig S_).sem)
        (.remote (Dev.tc (dst h) : Thread nD τ)
          ((cM.slice (Rect.unit (s := S4x8x9x64) o S1x8x9x64.size (i h)) (fun _ => rfl)).squeeze S8x9x64 squeezes_S1x8x9x64_S8x9x64) (.dma (sendS k)) (hsc h))}
    (O : CellTallies nD τ sig Unit) (f : (cc0_scratch0 : Ref sig .tc).ty.Contents (Elt F)) (hf : Agree f (selfV m ρ c)) :
    iprop(records m ρ K ∗ owesE c (O + tR c k) ∗ (if k ≠ y c then barPay c k else iprop(emp)) ∗ selfPts c (Transfers.shareTok fullShare 4 k) f
        ∗ dutyTok ER (recvCell (peer c k) (y c)) 0 (y c) ∗ dutyTok ER (sendCell c k) 0 k)
      ⊢ iprop(((owesE c O ∗ (if k = y c then selfPts c (Transfers.shareTok fullShare 4 k) f else cred (tallyAt (sendCell c k) () N))) -∗ Φ ⟨⟩)
          -∗ runs (α := PUnit) c (dite P (fun h =>
                Prog.lift (.enqueueDma sM (.remote (Dev.tc (dst h))
                  ((cM.slice (Rect.unit (s := S4x8x9x64) o S1x8x9x64.size (i h)) (fun _ => rfl)).squeeze S8x9x64 squeezes_S1x8x9x64_S8x9x64) (.dma (sendS k)) (hsc h))
                  (.dma ((cc0_scratch3.slice (Rect.unit (s := S4) o₁ S1.size (i₁ h))).squeeze S_ squeezes_S1_S_ : DmaSems sig S_).sem)
                  (hsrc h) (hdst h) (hsem h))) (fun _ => pure PUnit.unit)) Φ) := by
  by_cases h : P
  · have hk := hP.mp h
    rw [dif_pos h, if_neg hk, if_pos hk, tR, if_neg hk]
    exact send_op m ρ K c k hP hk (hd h) ho₁ ho O f hf
  · have hk : k = y c := by by_contra hk; exact h (hP.mpr hk)
    rw [if_pos hk, tR, if_pos hk, add_zero]
    iintro ⟨-, HO, -, Hs, -, -⟩ Hk
    iapply (runs_skip (F := F) c h Φ)
    iapply Hk
    isplitl [HO] <;> iassumption

/-- The wait for the landing in slot `k`; the semaphore is done with afterwards. In its own slot a device finds what it left. -/
theorem runs_recv {Φ : PUnit → sProp 𝕄} {src dst : Memref sig .tc .vmem S8x9x64 .f32} (hN : dst.view.dmaCredit = N)
    {hsrc : ∀ _ : P, src.view.WordExact} {hdst : ∀ _ : P, dst.view.WordExact}
    (f : Buf (Elt F) ((slotM k).view.loc (c : Thread nD τ))) (hf : Agree ((slotM k).view.read (Elt F) f) (fun _ => zf)) :
    iprop(records m ρ K ∗ owesE c 0 ∗ (if k = y c then iprop(emp) else cred (tallyAt (recvCell c k) () N)) ∗ atPos ER (recvCell c k) 0 ∅ 0
        ∗ (if k = y c then slotPts c k f else iprop(emp)))
      ⊢ iprop(((owesE c 0 ∗ recvPay m ρ c k ∗ semVal (recvCell c k) 0) -∗ Φ ⟨⟩)
          -∗ runs (α := PUnit) c (dite P (fun h =>
                Prog.lift (.waitDma2 (recvS k) src dst (hsrc h) (hdst h))) (fun _ => pure PUnit.unit)) Φ) := by
  by_cases h : P
  · have hk := hP.mp h
    rw [dif_pos h, if_neg hk, if_neg hk]
    unfold owesE
    simp only [Prog.lift, Prog.bind_op, Prog.bind_ret, Prog.pure_eq_ret]
    iintro ⟨#HR, ⟨%W, HO⟩, Hc, Hat, -⟩ Hk
    iapply (Rounds.wp_wait_rest_token 𝒱₀ ER (Rd m ρ) (c : Thread nD τ) none (κ := K (c, iV k))
        (wpE_waitDma2_eq 𝒱₀ (c : Thread nD τ) none Set.univ) (Set.mem_univ _) () (O := 0) (W := W) (R := 0) (m := 0) (T := ∅)
        (by rw [Nat.zero_add, hN, expect_recv m ρ c k hk])) $$ [Hc HO Hat]
    · isplitr; · iapply (inv_at m ρ K (c, iV k)); iexact HR
      isplitl [Hc]; · rw [hN]; iexact Hc
      isplitl [HO]; · iexact HO
      isplitr; · rw [MayWait_zero]; iempintro
      iexact Hat
    iintro ⟨HO, Hat, -, Hpay⟩
    imod (Rounds.cell_close ER (Rd m ρ) (Set.mem_univ (K (c, iV k))) (fun h => h) (R := 0 + 1) (duties_later m ρ (recvCell c k))) $$ [Hat] with Hz
    · isplitr; · iapply (inv_at m ρ K (c, iV k)); iexact HR
      iexact Hat
    iapply (runs_ret (F := F) c PUnit.unit Φ)
    iapply Hk
    isplitl [HO]
    · iexists _; iexact HO
    isplitl [Hpay]
    · iapply (Entails.of_eq (rest_recv m ρ c k hk)); iexact Hpay
    · iexact Hz
  · have hk : k = y c := by by_contra hk; exact h (hP.mpr hk)
    rw [if_pos hk, if_pos hk]
    iintro ⟨#HR, HO, -, Hat, Hs⟩ Hk
    imod (Rounds.cell_close ER (Rd m ρ) (Set.mem_univ (K (c, iV k))) (fun h => h) (R := 0)
      (duties_none m ρ (recvCell c k) (by rw [duties_recv, if_pos hk]))) $$ [Hat] with Hz
    · isplitr; · iapply (inv_at m ρ K (c, iV k)); iexact HR
      iexact Hat
    iapply (runs_skip (F := F) c h Φ)
    iapply Hk
    isplitl [HO]; · iexact HO
    isplitl [Hs]
    · unfold recvPay; iexists f
      isplitr
      · ipureintro; rw [slotV, if_pos hk]; exact hf
      · iexact Hs
    · iexact Hz

/-- The wait for the departure of transfer `k`, which gives the share of the partial sums back. -/
theorem runs_sent {Φ : PUnit → sProp 𝕄} {src dst : P → Memref sig .tc .vmem S8x9x64 .f32} (hN : ∀ h, (dst h).view.dmaCredit = N)
    {hsrc : ∀ h : P, (src h).view.WordExact} {hdst : ∀ h : P, (dst h).view.WordExact}
    (f : (cc0_scratch0 : Ref sig .tc).ty.Contents (Elt F)) :
    iprop(records m ρ K ∗ owesE c 0 ∗ atPos ER (sendCell c k) 0 ∅ 0
        ∗ (if k = y c then selfPts c (Transfers.shareTok fullShare 4 k) f else cred (tallyAt (sendCell c k) () N)))
      ⊢ iprop(((owesE c 0 ∗ sendPay c k ∗ semVal (sendCell c k) 0) -∗ Φ ⟨⟩)
          -∗ runs (α := PUnit) c (dite P (fun h =>
                Prog.lift (.waitDma2 (sendS k) (src h) (dst h) (hsrc h) (hdst h))) (fun _ => pure PUnit.unit)) Φ) := by
  by_cases h : P
  · have hk := hP.mp h
    rw [dif_pos h, if_neg hk]
    unfold owesE
    simp only [Prog.lift, Prog.bind_op, Prog.bind_ret, Prog.pure_eq_ret]
    iintro ⟨#HR, ⟨%W, HO⟩, Hat, Hc⟩ Hk
    iapply (Rounds.wp_wait_rest_token 𝒱₀ ER (Rd m ρ) (c : Thread nD τ) none (κ := K (c, iS k))
        (wpE_waitDma2_eq 𝒱₀ (c : Thread nD τ) none Set.univ) (Set.mem_univ _) () (O := 0) (W := W) (R := 0) (m := 0) (T := ∅)
        (by rw [Nat.zero_add, hN h, expect_send m ρ c k hk])) $$ [Hc HO Hat]
    · isplitr; · iapply (inv_at m ρ K (c, iS k)); iexact HR
      isplitl [Hc]; · rw [hN h]; iexact Hc
      isplitl [HO]; · iexact HO
      isplitr; · rw [MayWait_zero]; iempintro
      iexact Hat
    iintro ⟨HO, Hat, -, Hpay⟩
    imod (Rounds.cell_close ER (Rd m ρ) (Set.mem_univ (K (c, iS k))) (fun h => h) (R := 0 + 1) (duties_later m ρ (sendCell c k))) $$ [Hat] with Hz
    · isplitr; · iapply (inv_at m ρ K (c, iS k)); iexact HR
      iexact Hat
    iapply (runs_ret (F := F) c PUnit.unit Φ)
    iapply Hk
    isplitl [HO]
    · iexists _; iexact HO
    isplitl [Hpay]
    · iapply (Entails.of_eq (rest_send m ρ c k hk)); iexact Hpay
    · iexact Hz
  · have hk : k = y c := by by_contra hk; exact h (hP.mpr hk)
    rw [if_pos hk]
    iintro ⟨#HR, HO, Hat, Hs⟩ Hk
    imod (Rounds.cell_close ER (Rd m ρ) (Set.mem_univ (K (c, iS k))) (fun h => h) (R := 0)
      (duties_none m ρ (sendCell c k) (by rw [duties_send, if_pos hk]))) $$ [Hat] with Hz
    · isplitr; · iapply (inv_at m ρ K (c, iS k)); iexact HR
      iexact Hat
    iapply (runs_skip (F := F) c h Φ)
    iapply Hk
    isplitl [HO]; · iexact HO
    isplitl [Hs]
    · unfold sendPay; iexists f; iexact Hs
    · iexact Hz

end Steps

/-- The wait for the three ready units: the other three's slots come with it, and the barrier is done with. -/
theorem runs_barrier (K : Dev nD × CellIx → ℕ) (c : Dev nD) {Φ : PUnit → sProp 𝕄} :
    iprop(records m ρ K ∗ owesE c (OR c) ∗ cred (tallyAt (barCell c) () 3) ∗ levAts L lv ∗ atPos ER (barCell c) 0 ∅ 0)
      ⊢ iprop(((owesE c (OR c) ∗ (bigSep Finset.univ fun k : Fin 4 => if k ≠ y c then barPay c k else iprop(emp)) ∗ semVal (barCell c) 0) -∗ Φ ⟨⟩)
          -∗ runs (α := PUnit) c (semWaitWord barS 3#32) Φ) := by
  unfold owesE
  simp only [semWaitWord, Prog.lift]
  iintro ⟨#HR, ⟨%W, HO⟩, Hc, #Hlev, Hat⟩ Hk
  iapply (Rounds.wp_wait_rest_token 𝒱₀ ER (Rd m ρ) (c : Thread nD τ) none (κ := K (c, iB))
      (wpE_semWait_eq 𝒱₀ (c : Thread nD τ) none Set.univ) (Set.mem_univ _) () (O := OR c) (W := W) (R := 0) (m := 0) (T := ∅)
      (by rw [expect_bar]; decide)) $$ [Hc HO Hat]
  · isplitr; · iapply (inv_at m ρ K (c, iB)); iexact HR
    isplitl [Hc]; · iexact Hc
    isplitl [HO]; · iexact HO
    isplitr; · iapply (mayWait_bar c); iexact Hlev
    iexact Hat
  iintro ⟨HO, Hat, -, Hpay⟩
  imod (Rounds.cell_close ER (Rd m ρ) (Set.mem_univ (K (c, iB))) (fun h => h) (R := 0 + 1) (duties_later m ρ (barCell c))) $$ [Hat] with Hz
  · isplitr; · iapply (inv_at m ρ K (c, iB)); iexact HR
    iexact Hat
  iapply (runs_ret (F := F) c PUnit.unit Φ)
  iapply Hk
  isplitl [HO]
  · iexists _; iexact HO
  isplitl [Hpay]
  · iapply (Entails.of_eq (rest_bar m ρ c)); iexact Hpay
  · iexact Hz

end Cert.Exchange

end
-- ==== Proof.Memory.lean ====
/- The landing buffer cut into its four slots and put together again, the shares of the partial sums put together again, and four
   things told one by one. -/
module

public import proofs.«01_k».proof.Proof.Contents
public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-- Four things, one by one. -/
theorem four (Φ : Fin 4 → sProp 𝕄) : bigSep Finset.univ Φ = iprop(Φ 0 ∗ Φ 1 ∗ Φ 2 ∗ Φ 3) :=
  bigSep_univ_eq_bigSepL ([0, 1, 2, 3] : List (Fin 4)) (by decide) (by decide) Φ

/-! ## The slots -/

/-- The places of a slot, -/
abbrev slotSet (k : Fin 4) : Finset S4x8x9x64.Idx := (slotR k).set

/-- The slot read through its own shape has the same places. -/
theorem slot_set (k : Fin 4) : (slotM k).view.set = slotSet k := by
  refine (Memref.set_view_squeeze (cM.slice (slotR k) (fun _ => rfl)) squeezes_S1x8x9x64_S8x9x64).trans ?_
  exact View.set_slice_whole cc0_scratch1 (slotR k)

/-- those whose first coordinate is its number. -/
theorem mem_slot (k : Fin 4) (i : S4x8x9x64.Idx) : i ∈ slotSet k ↔ (i 0).val = k.val := by
  rw [Rect.mem_set_unit]
  constructor
  · intro h
    have := h 0
    simp at this
    omega
  · intro h a
    have := (i a).isLt
    fin_cases a <;> simp_all [S4x8x9x64, S1x8x9x64]

/-- Two different slots have no place in common. -/
theorem slots_disjoint (j k : Fin 4) (h : j ≠ k) : Disjoint (slotSet j) (slotSet k) :=
  Finset.disjoint_left.mpr fun i hj hk => h (Fin.ext (((mem_slot j i).mp hj).symm.trans ((mem_slot k i).mp hk)))

/-- The four slots make up the landing buffer. -/
theorem slots_cover : Finset.univ.biUnion slotSet = Finset.univ :=
  Finset.eq_univ_of_forall fun i : S4x8x9x64.Idx => Finset.mem_biUnion.mpr ⟨⟨(i 0).val, (i 0).isLt⟩, Finset.mem_univ _, (mem_slot _ i).mpr rfl⟩

/-- A slot held is its places held. -/
theorem slotPts_eq (c : Dev nD) (k : Fin 4) (f : Buf (Elt F) ((c : Thread nD τ).loc cc0_scratch1)) :
    (slotPts c k f : sProp 𝕄) = ((c : Thread nD τ).loc cc0_scratch1 ↦[slotSet k]{fullShare} f) := by
  unfold slotPts
  exact congrArg (fun S : Finset S4x8x9x64.Idx => ((c : Thread nD τ).loc cc0_scratch1 ↦[S]{fullShare} f : sProp 𝕄)) (slot_set k)

/-- The landing buffer, slot by slot; -/
theorem slots_split (c : Dev nD) (f : Buf (Elt F) ((c : Thread nD τ).loc cc0_scratch1)) :
    ((c : Thread nD τ).loc cc0_scratch1 ↦{fullShare} f : sProp 𝕄) = bigSep Finset.univ fun k : Fin 4 => slotPts c k f := by
  simp only [slotPts_eq]
  exact Ring.pointsTo_blocks (ℓ := (c : Thread nD τ).loc cc0_scratch1) slotSet slots_disjoint slots_cover f

/-- and the slots, at whatever they hold, make the buffer. -/
theorem slots_join (c : Dev nD) (f₀ : Buf (Elt F) ((c : Thread nD τ).loc cc0_scratch1)) :
    bigSep Finset.univ (fun k : Fin 4 => slotEx (F := F) c k) ⊢ (iprop(∃ g, (c : Thread nD τ).loc cc0_scratch1 ↦{fullShare} g) : sProp 𝕄) := by
  unfold slotEx
  simp only [slotPts_eq]
  exact Ring.pointsTo_blocks_join_exists (ℓ := (c : Thread nD τ).loc cc0_scratch1) slotSet slots_disjoint slots_cover f₀

/-- A load of a slot stays in it. -/
theorem slot_load (k : Fin 4) : (cM : Memref sig .tc .vmem S4x8x9x64 .f32).view.setOn (slotR k).toLoadRect.set ⊆ slotSet k :=
  fun i hi => by
    obtain ⟨j, hj, rfl⟩ := Finset.mem_map.mp hi
    exact hj

/-! ## The shares of the partial sums -/

/-- The partial sums' buffer is held as a whole. -/
theorem self_set : (sM : Memref sig .tc .vmem S8x9x64 .f32).view.set = Finset.univ := View.set_whole _

/-- The buffer held outright is a share kept and one for each transfer; -/
theorem self_split (c : Dev nD) (f : Buf (Elt F) ((c : Thread nD τ).loc cc0_scratch0)) :
    ((c : Thread nD τ).loc cc0_scratch0 ↦{fullShare} f : sProp 𝕄)
      ⊢ iprop(selfPts c (Transfers.shareDrop fullShare 4) f ∗ bigSep Finset.univ fun k : Fin 4 => selfPts c (Transfers.shareTok fullShare 4 k) f) := by
  unfold selfPts
  rw [self_set]
  exact (Transfers.pointsTo_toks fullShare 4).1

/-- a share at any contents has those of the share kept; -/
theorem self_agree (c : Dev nD) (q q' : PosShare TreeShare) (f g : Buf (Elt F) ((c : Thread nD τ).loc cc0_scratch0)) :
    iprop(selfPts (F := F) c q f ∗ selfPts c q' g) ⊢ (iprop(selfPts c q f ∗ selfPts c q' f) : sProp 𝕄) := by
  have h : iprop(selfPts (F := F) c q f ∗ selfPts c q' g) ⊢ (iprop(⌜f = g⌝) : sProp 𝕄) := by
    unfold selfPts
    refine pointsTo_agree.trans (BI.Laws.pure_mono fun h => funext fun i => (h i ?_).1)
    rw [self_set]
    exact Finset.mem_inter.mpr ⟨Finset.mem_univ _, Finset.mem_univ _⟩
  refine (persistent_entails_right h).trans ?_
  iintro ⟨%e, H⟩
  subst e
  iexact H

/-- and the shares make the buffer held outright. -/
theorem self_join (c : Dev nD) (f : Buf (Elt F) ((c : Thread nD τ).loc cc0_scratch0)) :
    iprop(selfPts c (Transfers.shareDrop fullShare 4) f ∗ bigSep Finset.univ fun k : Fin 4 => sendPay (F := F) c k)
      ⊢ ((c : Thread nD τ).loc cc0_scratch0 ↦{fullShare} f : sProp 𝕄) := by
  rw [four]
  unfold sendPay
  iintro ⟨H, ⟨%g0, H0⟩, ⟨%g1, H1⟩, ⟨%g2, H2⟩, ⟨%g3, H3⟩⟩
  ihave H' := (self_agree c _ _ f g0) $$ [H H0]; · isplitl [H] <;> iassumption
  icases H' with ⟨H, H0⟩
  ihave H' := (self_agree c _ _ f g1) $$ [H H1]; · isplitl [H] <;> iassumption
  icases H' with ⟨H, H1⟩
  ihave H' := (self_agree c _ _ f g2) $$ [H H2]; · isplitl [H] <;> iassumption
  icases H' with ⟨H, H2⟩
  ihave H' := (self_agree c _ _ f g3) $$ [H H3]; · isplitl [H] <;> iassumption
  icases H' with ⟨H, H3⟩
  iapply (show iprop(selfPts c (Transfers.shareDrop fullShare 4) f ∗ bigSep Finset.univ fun k : Fin 4 => selfPts c (Transfers.shareTok fullShare 4 k) f)
      ⊢ ((c : Thread nD τ).loc cc0_scratch0 ↦{fullShare} f : sProp 𝕄) by
    unfold selfPts
    rw [self_set]
    exact (Transfers.pointsTo_toks fullShare 4).2)
  isplitl [H]; · iexact H
  rw [four]
  isplitl [H0]; · iexact H0
  isplitl [H1]; · iexact H1
  isplitl [H2] <;> iassumption

end Cert.Exchange

end
-- ==== Proof.Parts.lean ====
/- The kernel's body, part by part: clearing and getting ready; the partial sums and the first transfer; the other transfers and
   the landings; the sum, the quotient and the departures. -/
module

public import proofs.«01_k».proof.Proof.Memory

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The guards and the addresses -/

section Guards
variable (c : Dev nD)

/-- The ready signal goes ahead where the peer at `y = 0` is another device. -/
theorem guard1 : k0_cond1 c = 1#1 ↔ (0 : Fin 4) ≠ y c := by revert c; decide
/-- The ready signal goes ahead where the peer at `y = 1` is another device. -/
theorem guard2 : k0_cond2 c = 1#1 ↔ (1 : Fin 4) ≠ y c := by revert c; decide
/-- The ready signal goes ahead where the peer at `y = 2` is another device. -/
theorem guard3 : k0_cond3 c = 1#1 ↔ (2 : Fin 4) ≠ y c := by revert c; decide
/-- The ready signal goes ahead where the peer at `y = 3` is another device. -/
theorem guard4 : k0_cond4 c = 1#1 ↔ (3 : Fin 4) ≠ y c := by revert c; decide
/-- The transfer goes ahead where the peer at `y = 0` is another device. -/
theorem guard5 : k0_cond5 c = 1#1 ↔ (0 : Fin 4) ≠ y c := by revert c; decide
/-- The transfer goes ahead where the peer at `y = 1` is another device. -/
theorem guard6 : k0_cond6 c = 1#1 ↔ (1 : Fin 4) ≠ y c := by revert c; decide
/-- The transfer goes ahead where the peer at `y = 2` is another device. -/
theorem guard7 : k0_cond7 c = 1#1 ↔ (2 : Fin 4) ≠ y c := by revert c; decide
/-- The transfer goes ahead where the peer at `y = 3` is another device. -/
theorem guard8 : k0_cond8 c = 1#1 ↔ (3 : Fin 4) ≠ y c := by revert c; decide
/-- The wait for a departure is done where the peer at `y = 0` is another device. -/
theorem guard13 : k0_cond13 c = 1#1 ↔ (0 : Fin 4) ≠ y c := by revert c; decide
/-- The wait for a departure is done where the peer at `y = 1` is another device. -/
theorem guard14 : k0_cond14 c = 1#1 ↔ (1 : Fin 4) ≠ y c := by revert c; decide
/-- The wait for a departure is done where the peer at `y = 2` is another device. -/
theorem guard15 : k0_cond15 c = 1#1 ↔ (2 : Fin 4) ≠ y c := by revert c; decide
/-- The wait for a departure is done where the peer at `y = 3` is another device. -/
theorem guard16 : k0_cond16 c = 1#1 ↔ (3 : Fin 4) ≠ y c := by revert c; decide

/-- The device's coordinates along `x`, `y` and `z` as the program computes them. -/
abbrev wx : BitVec 32 := Scalar.remsi (Scalar.divsi (Dev.word c) 16#32) 2#32
/-- The coordinate along `y`. -/
abbrev wy : BitVec 32 := Scalar.remsi (Scalar.divsi (Dev.word c) 4#32) 4#32
/-- The coordinate along `z`. -/
abbrev wz : BitVec 32 := Scalar.remsi (Scalar.divsi (Dev.word c) 1#32) 4#32

/-- The guard of a landing's wait, computed from the device's `y`. -/
abbrev landGuard (k : Fin 4) : BitVec 1 :=
  Scalar.cmpi .ne (Scalar.extui (Scalar.cmpi .ne (wy c) (BitVec.ofNat 32 k.val)) : BitVec 32) 0#32
/-- A landing is waited for in every slot but the device's own. -/
theorem land_guard (k : Fin 4) : landGuard c k = 1#1 ↔ k ≠ y c := by revert c k; decide

/-- A device number that the program computes is a peer's. -/
theorem dev_peer {n : ℕ} (k : Fin 4) {h : n < nD} (e : n = 16 * (c.val / 16) + c.val % 4 + 4 * k.val) : (⟨n, h⟩ : Dev nD) = peer c k :=
  Fin.ext (e.trans (by show _ = 16 * (c.val / 16) + 4 * k.val + c.val % 4; omega))

end Guards

section Parts

variable (K : Dev nD × CellIx → ℕ) (c : Dev nD)

/-- Clearing the landing buffer, the ready units, and the wait for the others'. -/
theorem part1 {Φ : (Σ' (d0 : Dev nD) (v2 : BitVec 32) (v5 : BitVec 32) (v8 : BitVec 32), FVec F S8x1x8x64 .bf16) → sProp 𝕄}
    (f : Buf (Elt F) ((c : Thread nD τ).loc cc0_scratch1)) :
    iprop(records m ρ K ∗ owesE c (O₀ c) ∗ cred (tallyAt (barCell c) () 3) ∗ levAts L lv ∗ atPos ER (barCell c) 0 ∅ 0
        ∗ (bigSep Finset.univ fun k : Fin 4 => dutyTok ER (barCell (peer c k)) 0 (y c))
        ∗ ((c : Thread nD τ).loc cc0_scratch1 ↦{fullShare} f)
        ∗ ((c : Thread nD τ).loc cc0_stg0_0 ↦{fullShare} qstg m ρ c))
      ⊢ iprop(((owesE c (OR c) ∗ semVal (barCell c) 0 ∗ (bigSep Finset.univ fun k : Fin 4 => if k ≠ y c then barPay c k else iprop(emp))
            ∗ (bigSep Finset.univ fun k : Fin 4 => if k = y c then slotPts c k (k0_pay2 (F := F)) else iprop(emp))
            ∗ ((c : Thread nD τ).loc cc0_stg0_0 ↦{fullShare} qstg m ρ c)) -∗ Φ ⟨c, wx c, wy c, wz c, k0_pay3 (qstg m ρ c)⟩)
          -∗ runs c (k0_part1 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Φ) := by
  rw [k0_part1_eq_skeleton]; unfold k0_part1_skel
  rw [four]
  iintro ⟨#HR, HO, Hc, #Hlev, Hat, ⟨Ht0, Ht1, Ht2, Ht3⟩, Hcm, Hq⟩ Hk
  iapply (runs_bind (F := F) c)
  iapply (runs_device (F := F) c)
  dsimp only
  iapply (runs_bind (F := F) c)
  iapply (runs_load (F := F) c (M := cM) (Finset.subset_univ _) rfl) $$ Hcm; iintro Hcm
  iapply (runs_bind (F := F) c)
  iapply (runs_store (F := F) c (M := cM)
      (r := Rect.unit (s := S4x8x9x64) ![0, 0, 0, 0] S4x8x9x64.size inb_S4x8x9x64_S4x8x9x64_0_0_0_0) (Finset.subset_univ _)
      (Memref.write_access_unit_zero_univ (Elt F) cc0_scratch1 hz4 _ _ _)) $$ Hcm; iintro Hcm
  ihave Hs := (Entails.of_eq ((slots_split c (k0_pay2 (F := F))).trans (four _))) $$ Hcm
  icases Hs with ⟨Hs0, Hs1, Hs2, Hs3⟩
  -- the four guarded ready units
  unfold O₀
  iapply (runs_guard (F := F) c)
  iapply (runs_signal m ρ K c 0 (guard1 c) (fun h => dev_peer c 0 (k0_dev1_eq c)) _ _) $$ [HO Ht0 Hs0]
  · isplitr; · iexact HR
    isplitl [HO]; · iexact HO
    isplitl [Ht0] <;> iassumption
  iintro ⟨HO, Hs0⟩
  iapply (runs_guard (F := F) c)
  iapply (runs_signal m ρ K c 1 (guard2 c) (fun h => dev_peer c 1 (k0_dev2_eq c)) _ _) $$ [HO Ht1 Hs1]
  · isplitr; · iexact HR
    isplitl [HO]; · iexact HO
    isplitl [Ht1] <;> iassumption
  iintro ⟨HO, Hs1⟩
  iapply (runs_guard (F := F) c)
  iapply (runs_signal m ρ K c 2 (guard3 c) (fun h => dev_peer c 2 (k0_dev3_eq c)) _ _) $$ [HO Ht2 Hs2]
  · isplitr; · iexact HR
    isplitl [HO]; · iexact HO
    isplitl [Ht2] <;> iassumption
  iintro ⟨HO, Hs2⟩
  iapply (runs_guard (F := F) c)
  iapply (runs_signal m ρ K c 3 (guard4 c) (fun h => dev_peer c 3 (k0_dev4_eq c)) _ _) $$ [HO Ht3 Hs3]
  · isplitr; · iexact HR
    isplitl [HO]; · iexact HO
    isplitl [Ht3] <;> iassumption
  iintro ⟨HO, Hs3⟩
  -- the wait for the others'
  iapply (runs_bind (F := F) c)
  iapply (runs_barrier m ρ K c) $$ [HO Hc Hat]
  · isplitr; · iexact HR
    isplitl [HO]; · iexact HO
    isplitl [Hc]; · iexact Hc
    isplitr; · iexact Hlev
    iexact Hat
  iintro ⟨HO, Hb, Hz⟩
  iapply (runs_bind (F := F) c)
  iapply (runs_load (F := F) c (M := Memref.whole cc0_stg0_0) (Finset.subset_univ _)
      (Memref.readAt_unit_zero (Elt F) cc0_stg0_0 hz4 _ _)) $$ Hq; iintro Hq
  iapply (runs_ret (F := F) c)
  iapply Hk
  isplitl [HO]; · iexact HO
  isplitl [Hz]; · iexact Hz
  isplitl [Hb]; · iexact Hb
  isplitr [Hq]
  · rw [four]
    isplitl [Hs0]; · iexact Hs0
    isplitl [Hs1]; · iexact Hs1
    isplitl [Hs2] <;> iassumption
  · iexact Hq

/-- What is held for transfer `k` between its start and the wait for its departure: a claim on its departure, or, in place of a
    transfer to the device itself, the share. -/
def sent (f : (cc0_scratch0 : Ref sig .tc).ty.Contents (Elt F)) (k : Fin 4) : sProp 𝕄 :=
  if k = y c then selfPts c (Transfers.shareTok fullShare 4 k) f else cred (tallyAt (sendCell c k) () N)

set_option maxHeartbeats 800000 in
/-- The partial sums, and the first transfer. -/
theorem part2 {Φ : BitVec 32 → sProp 𝕄} (g : Buf (Elt F) ((c : Thread nD τ).loc cc0_scratch0)) (v2 v8 : BitVec 32) :
    iprop(records m ρ K ∗ owesE c (OR c) ∗ (if (0 : Fin 4) ≠ y c then barPay c 0 else iprop(emp))
        ∗ dutyTok ER (recvCell (peer c 0) (y c)) 0 (y c) ∗ dutyTok ER (sendCell c 0) 0 0
        ∗ ((c : Thread nD τ).loc cc0_scratch0 ↦{fullShare} g)
        ∗ ((c : Thread nD τ).loc cc0_stg1_0 ↦{fullShare} kstg m ρ c) ∗ ((c : Thread nD τ).loc cc0_stg2_0 ↦{fullShare} vstg m ρ c))
      ⊢ iprop(((owesE c (0 + tR c 3 + tR c 2 + tR c 1) ∗ sent c (selfC m ρ c g) 0
            ∗ selfPts c (Transfers.shareDrop fullShare 4) (selfC m ρ c g)
            ∗ selfPts c (Transfers.shareTok fullShare 4 1) (selfC m ρ c g) ∗ selfPts c (Transfers.shareTok fullShare 4 2) (selfC m ρ c g)
            ∗ selfPts c (Transfers.shareTok fullShare 4 3) (selfC m ρ c g)
            ∗ ((c : Thread nD τ).loc cc0_stg1_0 ↦{fullShare} kstg m ρ c) ∗ ((c : Thread nD τ).loc cc0_stg2_0 ↦{fullShare} vstg m ρ c))
            -∗ Φ (Scalar.extui (Scalar.cmpi .ne (wy c) 1#32)))
          -∗ runs c (k0_part2 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3 c v2 (wy c) v8 (k0_pay3 (qstg m ρ c))) Φ) := by
  rw [k0_part2_eq_skeleton]; unfold k0_part2_skel
  iintro ⟨#HR, HO, Hb0, Htr0, Hts0, Hs, Hkk, Hvv⟩ Hk
  iapply (runs_bind (F := F) c)
  iapply (runs_load (F := F) c (M := Memref.whole cc0_stg1_0) (Finset.subset_univ _)
      (Memref.readAt_unit_zero (Elt F) cc0_stg1_0 hz4 _ _)) $$ Hkk; iintro Hkk
  iapply (runs_bind (F := F) c)
  iapply (runs_load (F := F) c (M := Memref.whole cc0_stg2_0) (Finset.subset_univ _)
      (Memref.readAt_unit_zero (Elt F) cc0_stg2_0 hz4 _ _)) $$ Hvv; iintro Hvv
  iapply (runs_bind (F := F) c)
  iapply (runs_load (F := F) c (M := sM) (Finset.subset_univ _) rfl) $$ Hs; iintro Hs
  iapply (runs_bind (F := F) c)
  iapply (runs_store (F := F) c (M := sM) (r := rowsR) (Finset.subset_univ _) rfl) $$ Hs; iintro Hs
  iapply (runs_bind (F := F) c)
  iapply (runs_load (F := F) c (M := sM) (Finset.subset_univ _) rfl) $$ Hs; iintro Hs
  iapply (runs_bind (F := F) c)
  iapply (runs_store (F := F) c (M := sM) (r := denR) (g := selfC m ρ c g) (Finset.subset_univ _) rfl) $$ Hs; iintro Hs
  ihave Hs' := (self_split c (selfC m ρ c g)) $$ Hs
  icases Hs' with ⟨Hd, Hs'⟩
  ihave Hs'' := (Entails.of_eq (four _)) $$ Hs'
  icases Hs'' with ⟨Hs0, Hs1, Hs2, Hs3⟩
  unfold OR
  iapply (runs_guard (F := F) c)
  iapply (runs_send m ρ K c 0 (guard5 c) (fun h => dev_peer c 0 (k0_dev5_eq c)) (k0_off1_eq c) (k0_off2_eq c) _ (selfC m ρ c g)
      (selfC_agree m ρ c g _)) $$ [HO Hb0 Hs0 Htr0 Hts0]
  · isplitr; · iexact HR
    isplitl [HO]; · iexact HO
    isplitl [Hb0]; · iexact Hb0
    isplitl [Hs0]; · iexact Hs0
    isplitl [Htr0] <;> iassumption
  iintro ⟨HO, Hs0⟩
  iapply (runs_ret (F := F) c)
  iapply Hk
  isplitl [HO]; · iexact HO
  isplitl [Hs0]; · unfold sent; iexact Hs0
  isplitl [Hd]; · iexact Hd
  isplitl [Hs1]; · iexact Hs1
  isplitl [Hs2]; · iexact Hs2
  isplitl [Hs3]; · iexact Hs3
  isplitl [Hkk] <;> iassumption

/-- The four slots as they are after the landings: each holding what is due in it. -/
def landed (f : Fin 4 → (cc0_scratch1 : Ref sig .tc).ty.Contents (Elt F)) : sProp 𝕄 :=
  iprop(⌜∀ k, Agree ((slotM k).view.read (Elt F) (f k)) (slotV m ρ c k)⌝ ∗ slotPts c 0 (f 0) ∗ slotPts c 1 (f 1) ∗ slotPts c 2 (f 2) ∗ slotPts c 3 (f 3))

/-- What the four landings bring, put together. -/
theorem landed_intro : iprop(recvPay m ρ c 0 ∗ recvPay m ρ c 1 ∗ recvPay m ρ c 2 ∗ recvPay m ρ c 3) ⊢ (iprop(∃ f, landed m ρ c f) : sProp 𝕄) := by
  unfold recvPay landed
  iintro ⟨⟨%f0, %h0, H0⟩, ⟨%f1, %h1, H1⟩, ⟨%f2, %h2, H2⟩, ⟨%f3, %h3, H3⟩⟩
  iexists (fun k : Fin 4 => match k with | 0 => f0 | 1 => f1 | 2 => f2 | 3 => f3)
  isplitr
  · ipureintro; intro k; fin_cases k <;> assumption
  isplitl [H0]; · iexact H0
  isplitl [H1]; · iexact H1
  isplitl [H2] <;> iassumption

/-- A load of a slot. -/
theorem runs_slot (k : Fin 4) {r : Rect S4x8x9x64} (hr : r = slotR k) {hl : (cM : Memref sig .tc .vmem S4x8x9x64 .f32).view.LoadsAt (slotR k).toLoadRect}
    (f : Buf (Elt F) ((c : Thread nD τ).loc cc0_scratch1)) {Φ : Vec F S1x8x9x64 .f32 → sProp 𝕄} :
    slotPts c k f ⊢ iprop((slotPts c k f -∗ Φ (slotLd k f)) -∗ runs c (Prog.lift (.load cM (slotR k).toLoadRect hl)) Φ) := by
  rw [slotPts_eq]
  exact runs_load (F := F) c (M := cM) (slot_load k) rfl

set_option maxHeartbeats 800000 in
/-- The other transfers, the landings, and the sum's first half. -/
theorem part3 {Φ : FVec F S8x9x64 .f32 → sProp 𝕄} (g : (cc0_scratch0 : Ref sig .tc).ty.Contents (Elt F)) (v2 v8 v63 : BitVec 32) :
    iprop(records m ρ K ∗ owesE c (0 + tR c 3 + tR c 2 + tR c 1)
        ∗ ((if (1 : Fin 4) ≠ y c then barPay c 1 else iprop(emp)) ∗ (if (2 : Fin 4) ≠ y c then barPay c 2 else iprop(emp))
          ∗ (if (3 : Fin 4) ≠ y c then barPay c 3 else iprop(emp)))
        ∗ (dutyTok ER (recvCell (peer c 1) (y c)) 0 (y c) ∗ dutyTok ER (recvCell (peer c 2) (y c)) 0 (y c)
          ∗ dutyTok ER (recvCell (peer c 3) (y c)) 0 (y c))
        ∗ (dutyTok ER (sendCell c 1) 0 1 ∗ dutyTok ER (sendCell c 2) 0 2 ∗ dutyTok ER (sendCell c 3) 0 3)
        ∗ selfPts c (Transfers.shareDrop fullShare 4) (selfC m ρ c g)
        ∗ (selfPts c (Transfers.shareTok fullShare 4 1) (selfC m ρ c g) ∗ selfPts c (Transfers.shareTok fullShare 4 2) (selfC m ρ c g)
          ∗ selfPts c (Transfers.shareTok fullShare 4 3) (selfC m ρ c g))
        ∗ (bigSep Finset.univ fun k : Fin 4 => if k = y c then iprop(emp) else cred (tallyAt (recvCell c k) () N))
        ∗ (bigSep Finset.univ fun k : Fin 4 => atPos ER (recvCell c k) 0 ∅ 0)
        ∗ (bigSep Finset.univ fun k : Fin 4 => if k = y c then slotPts c k (k0_pay2 (F := F)) else iprop(emp)))
      ⊢ iprop((∀ f, (owesE c 0 ∗ selfPts c (Transfers.shareDrop fullShare 4) (selfC m ρ c g)
            ∗ (sent c (selfC m ρ c g) 1 ∗ sent c (selfC m ρ c g) 2 ∗ sent c (selfC m ρ c g) 3)
            ∗ (bigSep Finset.univ fun k : Fin 4 => semVal (recvCell c k) 0) ∗ landed m ρ c f)
            -∗ Φ (k0_pay7 (selfC m ρ c g) (slotLd 0 (f 0)) (slotLd 1 (f 1))))
          -∗ runs c (k0_part3 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3 c v2 (wy c) v8 v63) Φ) := by
  rw [k0_part3_eq_skeleton]; unfold k0_part3_skel
  rw [four, four, four]
  iintro ⟨#HR, HO, ⟨Hb1, Hb2, Hb3⟩, ⟨Htr1, Htr2, Htr3⟩, ⟨Hts1, Hts2, Hts3⟩, Hd, ⟨Hs1, Hs2, Hs3⟩, ⟨Hc0, Hc1, Hc2, Hc3⟩,
    ⟨Hat0, Hat1, Hat2, Hat3⟩, ⟨Hsl0, Hsl1, Hsl2, Hsl3⟩⟩ Hk
  iapply (runs_guard (F := F) c)
  iapply (runs_send m ρ K c 1 (guard6 c) (fun h => dev_peer c 1 (k0_dev6_eq c)) (k0_off3_eq c) (k0_off4_eq c) _ (selfC m ρ c g)
      (selfC_agree m ρ c g _)) $$ [HO Hb1 Hs1 Htr1 Hts1]
  · isplitr; · iexact HR
    isplitl [HO]; · iexact HO
    isplitl [Hb1]; · iexact Hb1
    isplitl [Hs1]; · iexact Hs1
    isplitl [Htr1] <;> iassumption
  iintro ⟨HO, Hs1⟩
  iapply (runs_guard (F := F) c)
  iapply (runs_send m ρ K c 2 (guard7 c) (fun h => dev_peer c 2 (k0_dev7_eq c)) (k0_off5_eq c) (k0_off6_eq c) _ (selfC m ρ c g)
      (selfC_agree m ρ c g _)) $$ [HO Hb2 Hs2 Htr2 Hts2]
  · isplitr; · iexact HR
    isplitl [HO]; · iexact HO
    isplitl [Hb2]; · iexact Hb2
    isplitl [Hs2]; · iexact Hs2
    isplitl [Htr2] <;> iassumption
  iintro ⟨HO, Hs2⟩
  iapply (runs_guard (F := F) c)
  iapply (runs_send m ρ K c 3 (guard8 c) (fun h => dev_peer c 3 (k0_dev8_eq c)) (k0_off7_eq c) (k0_off8_eq c) _ (selfC m ρ c g)
      (selfC_agree m ρ c g _)) $$ [HO Hb3 Hs3 Htr3 Hts3]
  · isplitr; · iexact HR
    isplitl [HO]; · iexact HO
    isplitl [Hb3]; · iexact Hb3
    isplitl [Hs3]; · iexact Hs3
    isplitl [Htr3] <;> iassumption
  iintro ⟨HO, Hs3⟩
  iapply (runs_guard (F := F) c)
  iapply (runs_recv m ρ K c 0 (dst := slotM 0) (land_guard c 0) (by rfl) (k0_pay2 (F := F)) (cleared 0)) $$ [HO Hc0 Hat0 Hsl0]
  · isplitr; · iexact HR
    isplitl [HO]; · iexact HO
    isplitl [Hc0]; · iexact Hc0
    isplitl [Hat0] <;> iassumption
  iintro ⟨HO, Hr0, Hz0⟩
  iapply (runs_guard (F := F) c)
  iapply (runs_recv m ρ K c 1 (dst := slotM 1) (land_guard c 1) (by rfl) (k0_pay2 (F := F)) (cleared 1)) $$ [HO Hc1 Hat1 Hsl1]
  · isplitr; · iexact HR
    isplitl [HO]; · iexact HO
    isplitl [Hc1]; · iexact Hc1
    isplitl [Hat1] <;> iassumption
  iintro ⟨HO, Hr1, Hz1⟩
  iapply (runs_guard (F := F) c)
  iapply (runs_recv m ρ K c 2 (dst := slotM 2) (land_guard c 2) (by rfl) (k0_pay2 (F := F)) (cleared 2)) $$ [HO Hc2 Hat2 Hsl2]
  · isplitr; · iexact HR
    isplitl [HO]; · iexact HO
    isplitl [Hc2]; · iexact Hc2
    isplitl [Hat2] <;> iassumption
  iintro ⟨HO, Hr2, Hz2⟩
  iapply (runs_guard (F := F) c)
  iapply (runs_recv m ρ K c 3 (dst := slotM 3) (land_guard c 3) (by rfl) (k0_pay2 (F := F)) (cleared 3)) $$ [HO Hc3 Hat3 Hsl3]
  · isplitr; · iexact HR
    isplitl [HO]; · iexact HO
    isplitl [Hc3]; · iexact Hc3
    isplitl [Hat3] <;> iassumption
  iintro ⟨HO, Hr3, Hz3⟩
  ihave Hl := (landed_intro m ρ c) $$ [Hr0 Hr1 Hr2 Hr3]
  · isplitl [Hr0]; · iexact Hr0
    isplitl [Hr1]; · iexact Hr1
    isplitl [Hr2] <;> iassumption
  icases Hl with ⟨%f, Hl⟩
  unfold landed
  icases Hl with ⟨%hf, Hl0, Hl1, Hl23⟩
  unfold selfPts
  iapply (runs_bind (F := F) c)
  iapply (runs_load (F := F) c (M := sM) (by rw [self_set]; exact Finset.subset_univ _)
      (Memref.readAt_unit_zero (Elt F) cc0_scratch0 hz3 _ _)) $$ Hd; iintro Hd
  iapply (runs_bind (F := F) c)
  iapply (runs_slot (F := F) c 0 rfl (f 0)) $$ Hl0; iintro Hl0
  iapply (runs_bind (F := F) c)
  iapply (runs_slot (F := F) c 1 rfl (f 1)) $$ Hl1; iintro Hl1
  iapply (runs_ret (F := F) c)
  iapply Hk
  isplitl [HO]; · iexact HO
  isplitl [Hd]; · iexact Hd
  isplitl [Hs1 Hs2 Hs3]
  · unfold sent selfPts
    isplitl [Hs1]; · iexact Hs1
    isplitl [Hs2] <;> iassumption
  isplitl [Hz0 Hz1 Hz2 Hz3]
  · rw [four]
    isplitl [Hz0]; · iexact Hz0
    isplitl [Hz1]; · iexact Hz1
    isplitl [Hz2] <;> iassumption
  isplitr; · ipureintro; exact hf
  isplitl [Hl0]; · iexact Hl0
  isplitl [Hl1] <;> iassumption

/-- What a device's exchange starts from: all cells' records, its positions at its own nine cells, the tokens with which it
    pays, and the credit of what will be paid to it. -/
def holds : sProp 𝕄 :=
  iprop(records m ρ K ∗ atPos ER (barCell c) 0 ∅ 0
    ∗ (bigSep Finset.univ fun k : Fin 4 => atPos ER (sendCell c k) 0 ∅ 0) ∗ (bigSep Finset.univ fun k : Fin 4 => atPos ER (recvCell c k) 0 ∅ 0)
    ∗ (bigSep Finset.univ fun k : Fin 4 => payToks (F := F) c k) ∗ cred (tallyAt (barCell c) () 3)
    ∗ (bigSep Finset.univ fun k : Fin 4 => if k = y c then iprop(emp) else cred (tallyAt (recvCell c k) () N)) ∗ levAts L lv)

/-- What it ends with: its nine semaphores at zero, and its two buffers. -/
def ends : sProp 𝕄 :=
  iprop(semVal (barCell c) 0 ∗ (bigSep Finset.univ fun k : Fin 4 => semVal (sendCell c k) 0)
    ∗ (bigSep Finset.univ fun k : Fin 4 => semVal (recvCell c k) 0)
    ∗ (∃ f, (c : Thread nD τ).loc cc0_scratch0 ↦{fullShare} f) ∗ (∃ f, (c : Thread nD τ).loc cc0_scratch1 ↦{fullShare} f))

set_option maxHeartbeats 1600000 in
/-- One device's kernel, from start to end. -/
theorem body {Φ : PUnit → sProp 𝕄} (gs : Buf (Elt F) ((c : Thread nD τ).loc cc0_scratch0)) (gc : Buf (Elt F) ((c : Thread nD τ).loc cc0_scratch1))
    (go : Buf (Elt F) ((c : Thread nD τ).loc cc0_stg3_0)) :
    iprop(holds m ρ K c ∗ owesE c (O₀ c)
        ∗ ((c : Thread nD τ).loc cc0_scratch0 ↦{fullShare} gs) ∗ ((c : Thread nD τ).loc cc0_scratch1 ↦{fullShare} gc)
        ∗ ((c : Thread nD τ).loc cc0_stg0_0 ↦{fullShare} qstg m ρ c) ∗ ((c : Thread nD τ).loc cc0_stg1_0 ↦{fullShare} kstg m ρ c)
        ∗ ((c : Thread nD τ).loc cc0_stg2_0 ↦{fullShare} vstg m ρ c) ∗ ((c : Thread nD τ).loc cc0_stg3_0 ↦{fullShare} go))
      ⊢ iprop(((ends c ∗ owesE c 0
            ∗ ((c : Thread nD τ).loc cc0_stg0_0 ↦{fullShare} qstg m ρ c) ∗ ((c : Thread nD τ).loc cc0_stg1_0 ↦{fullShare} kstg m ρ c)
            ∗ ((c : Thread nD τ).loc cc0_stg2_0 ↦{fullShare} vstg m ρ c) ∗ ((c : Thread nD τ).loc cc0_stg3_0 ↦{fullShare} outAt m ρ c)) -∗ Φ ⟨⟩)
          -∗ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3) Φ) := by
  rw [cc0_body_eq_skeleton]; unfold cc0_body_skel holds payToks
  rw [bigSep_sep', bigSep_sep', four (fun k => dutyTok ER (recvCell (peer c k) (y c)) 0 (y c)), four (fun k => dutyTok ER (sendCell c k) 0 k),
    four (fun k => atPos ER (sendCell c k) 0 ∅ 0)]
  iintro ⟨⟨#HR, Hat, ⟨Hat0, Hat1, Hat2, Hat3⟩, Hav, ⟨Htb, ⟨Htr0, Htr1, Htr2, Htr3⟩, Hts0, Hts1, Hts2, Hts3⟩, Hcb, Hcr, #Hlev⟩, HO,
    Hs, Hc, Hq, Hkk, Hvv, Hout⟩ Hk
  iapply (runs_bind (F := F) c)
  iapply (part1 m ρ K c gc) $$ [HO Hcb Hat Htb Hc Hq]
  · isplitr; · iexact HR
    isplitl [HO]; · iexact HO
    isplitl [Hcb]; · iexact Hcb
    isplitr; · iexact Hlev
    isplitl [Hat]; · iexact Hat
    isplitl [Htb]; · iexact Htb
    isplitl [Hc] <;> iassumption
  iintro ⟨HO, Hzb, Hb, Hsl, Hq⟩
  ihave Hb' := (Entails.of_eq (four _)) $$ Hb
  icases Hb' with ⟨Hb0, Hb1, Hb2, Hb3⟩
  dsimp only
  iapply (runs_bind (F := F) c)
  iapply (part2 m ρ K c gs _ _) $$ [HO Hb0 Htr0 Hts0 Hs Hkk Hvv]
  · isplitr; · iexact HR
    isplitl [HO]; · iexact HO
    isplitl [Hb0]; · iexact Hb0
    isplitl [Htr0]; · iexact Htr0
    isplitl [Hts0]; · iexact Hts0
    isplitl [Hs]; · iexact Hs
    isplitl [Hkk] <;> iassumption
  iintro ⟨HO, Hs0, Hd, Hs1, Hs2, Hs3, Hkk, Hvv⟩
  iapply (runs_bind (F := F) c)
  iapply (part3 m ρ K c gs _ _ _) $$ [HO Hb1 Hb2 Hb3 Htr1 Htr2 Htr3 Hts1 Hts2 Hts3 Hs1 Hs2 Hs3 Hd Hcr Hav Hsl]
  · isplitr; · iexact HR
    isplitl [HO]; · iexact HO
    isplitl [Hb1 Hb2 Hb3]
    · isplitl [Hb1]; · iexact Hb1
      isplitl [Hb2] <;> iassumption
    isplitl [Htr1 Htr2 Htr3]
    · isplitl [Htr1]; · iexact Htr1
      isplitl [Htr2] <;> iassumption
    isplitl [Hts1 Hts2 Hts3]
    · isplitl [Hts1]; · iexact Hts1
      isplitl [Hts2] <;> iassumption
    isplitl [Hd]; · iexact Hd
    isplitl [Hs1 Hs2 Hs3]
    · isplitl [Hs1]; · iexact Hs1
      isplitl [Hs2] <;> iassumption
    isplitl [Hcr]; · iexact Hcr
    isplitl [Hav] <;> iassumption
  iintro %f ⟨HO, Hd, ⟨Hs1, Hs2, Hs3⟩, Hzv, Hl⟩
  unfold landed
  icases Hl with ⟨%hf, Hl0, Hl1, Hl2, Hl3⟩
  iapply (runs_bind (F := F) c)
  iapply (runs_slot (F := F) c 2 rfl (f 2)) $$ Hl2; iintro Hl2
  iapply (runs_bind (F := F) c)
  iapply (runs_slot (F := F) c 3 rfl (f 3)) $$ Hl3; iintro Hl3
  iapply (runs_bind (F := F) c)
  iapply (runs_load (F := F) c (M := Memref.whole cc0_stg3_0) (Finset.subset_univ _) rfl) $$ Hout; iintro Hout
  iapply (runs_bind (F := F) c)
  iapply (runs_store (F := F) c (M := Memref.whole cc0_stg3_0)
      (r := Rect.unit (s := S8x1x8x64) ![0, 0, 0, 0] S8x1x8x64.size inb_S8x1x8x64_S8x1x8x64_0_0_0_0) (g := outAt m ρ c) (Finset.subset_univ _)
      ((Memref.write_access_unit_zero_univ (Elt F) cc0_stg3_0 hz4 _ _ _).trans (out_eq m ρ c (selfC_agree m ρ c gs _) hf))) $$ Hout
  iintro Hout
  iapply (runs_guard (F := F) c)
  iapply (runs_sent m ρ K c 0 (guard13 c) (fun _ => by rfl) (selfC m ρ c gs)) $$ [HO Hat0 Hs0]
  · isplitr; · iexact HR
    isplitl [HO]; · iexact HO
    isplitl [Hat0]; · iexact Hat0
    unfold sent; iexact Hs0
  iintro ⟨HO, Hp0, Hz0⟩
  iapply (runs_guard (F := F) c)
  iapply (runs_sent m ρ K c 1 (guard14 c) (fun _ => by rfl) (selfC m ρ c gs)) $$ [HO Hat1 Hs1]
  · isplitr; · iexact HR
    isplitl [HO]; · iexact HO
    isplitl [Hat1]; · iexact Hat1
    unfold sent; iexact Hs1
  iintro ⟨HO, Hp1, Hz1⟩
  iapply (runs_guard (F := F) c)
  iapply (runs_sent m ρ K c 2 (guard15 c) (fun _ => by rfl) (selfC m ρ c gs)) $$ [HO Hat2 Hs2]
  · isplitr; · iexact HR
    isplitl [HO]; · iexact HO
    isplitl [Hat2]; · iexact Hat2
    unfold sent; iexact Hs2
  iintro ⟨HO, Hp2, Hz2⟩
  iapply (runs_guard (F := F) c)
  iapply (runs_sent m ρ K c 3 (guard16 c) (fun _ => by rfl) (selfC m ρ c gs)) $$ [HO Hat3 Hs3]
  · isplitr; · iexact HR
    isplitl [HO]; · iexact HO
    isplitl [Hat3]; · iexact Hat3
    unfold sent; iexact Hs3
  iintro ⟨HO, Hp3, Hz3⟩
  iapply (runs_ret (F := F) c)
  iapply Hk
  ihave Hs := (self_join c (selfC m ρ c gs)) $$ [Hd Hp0 Hp1 Hp2 Hp3]
  · isplitl [Hd]; · iexact Hd
    rw [four]
    isplitl [Hp0]; · iexact Hp0
    isplitl [Hp1]; · iexact Hp1
    isplitl [Hp2] <;> iassumption
  ihave Hc := (slots_join c gc) $$ [Hl0 Hl1 Hl2 Hl3]
  · rw [four]; unfold slotEx
    isplitl [Hl0]; · iexists _; iexact Hl0
    isplitl [Hl1]; · iexists _; iexact Hl1
    isplitl [Hl2]; · iexists _; iexact Hl2
    iexists _; iexact Hl3
  unfold ends
  isplitl [Hzb Hz0 Hz1 Hz2 Hz3 Hzv Hs Hc]
  · isplitl [Hzb]; · iexact Hzb
    isplitl [Hz0 Hz1 Hz2 Hz3]
    · rw [four]
      isplitl [Hz0]; · iexact Hz0
      isplitl [Hz1]; · iexact Hz1
      isplitl [Hz2] <;> iassumption
    isplitl [Hzv]; · iexact Hzv
    isplitl [Hs]; · iexists _; iexact Hs
    iexact Hc
  isplitl [HO]; · iexact HO
  isplitl [Hq]; · iexact Hq
  isplitl [Hkk]; · iexact Hkk
  isplitl [Hvv] <;> iassumption

end Parts

end Cert.Exchange

end
-- ==== Proof.Run.lean ====
/-
# The run

The kernel is one pipelined region on each of the thirty-two devices, one grid point, four windows: the three inputs
fetched, the result flushed. This module puts one device's kernel (Parts.lean `body`) under the library's region, deals
each device at launch its cells, its tokens and its credit, and concludes with the run of the whole program.
-/
module

public import proofs.«01_k».proof.Proof.Parts
public import proofs.«01_k».proof.Proof.Gen.KernelIdeal.Points
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The region's proof data -/

/-- What a device has at the region's entry besides the buffers of its own: its part in the exchange. -/
def start (c : Dev nD) : sProp 𝕄 := iprop(∃ K, holds m ρ K c)
/-- With its two buffers. -/
def Φ₀ (c : Dev nD) : sProp 𝕄 :=
  iprop(start m ρ c ∗ (∃ f, (c : Thread nD τ).loc cc0_scratch0 ↦{fullShare} f) ∗ (∃ f, (c : Thread nD τ).loc cc0_scratch1 ↦{fullShare} f))

/-- The region of one device: what the windows hold after the point, what the device holds around it, what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => qstg m ρ c
    | ⟨1, _⟩ => kstg m ρ c
    | ⟨2, _⟩ => vstg m ρ c
    | ⟨3, _⟩ => outAt m ρ c
  Φ t := match t with
    | ⟨0, _⟩ => Φ₀ m ρ c
    | ⟨_ + 1, _⟩ => ends c
  q _ := fullShare
  owed t := match t with
    | ⟨0, _⟩ => O₀ c
    | ⟨_ + 1, _⟩ => 0

/-- A staging buffer held at contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
/-- A whole buffer owned is the buffer held. -/
theorem owns_held (c : Dev nD) (b : Ref sig .tc) (X : b.ty.Contents (Elt F)) :
    (owns (Ix := Unit) (Name := ℕ) (U := UU) (Lvl := ℕ) (c : Thread nD τ) (Memref.whole b) fullShare X : sProp 𝕄) = held c b X := by
  unfold owns; simp only [Memref.view_whole, View.read_whole, View.set_whole]

/-- The region's point, before and after. -/
def before (c : Dev nD) : sProp 𝕄 :=
  iprop(Φ₀ m ρ c ∗ (dats m ρ 0 c).owesAt () t0_0.castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))
/-- The point after the kernel. -/
def after (c : Dev nD) : sProp 𝕄 :=
  iprop(ends c ∗ (dats m ρ 0 c).owesAt () t0_0.succ ∗ held c cc0_stg0_0 (qstg m ρ c) ∗ held c cc0_stg1_0 (kstg m ρ c)
    ∗ held c cc0_stg2_0 (vstg m ρ c) ∗ held c cc0_stg3_0 (outAt m ρ c))

set_option maxRecDepth 4000 in
/-- The kernel between them. -/
theorem point (c : Dev nD) :
    before m ρ c ⊢ runs c (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3)
        (fun _ => after m ρ c) := by
  unfold before Φ₀ start
  iintro ⟨⟨⟨%K, HG⟩, ⟨%gs, Hs⟩, ⟨%gc, Hc⟩⟩, Ho, ⟨%d0, %g0, %h0, H0⟩, ⟨%d1, %g1, %h1, H1⟩, ⟨%d2, %g2, %h2, H2⟩, ⟨%d3, %g3, %h3, H3⟩⟩
  have e0 : g0 = qstg m ρ c := by rw [h0]; unfold Dat.before; rw [if_pos (fetch0_0 t0_0)]; rfl
  have e1 : g1 = kstg m ρ c := by rw [h1]; unfold Dat.before; rw [if_pos (fetch0_1 t0_0)]; rfl
  have e2 : g2 = vstg m ρ c := by rw [h2]; unfold Dat.before; rw [if_pos (fetch0_2 t0_0)]; rfl
  subst e0 e1 e2
  unfold Dat.owesAt Pipeline.owesWithin
  icases Ho with ⟨%W, %hW, HO⟩
  rw [show (dats m ρ 0 c).owed t0_0.castSucc = O₀ c from rfl]
  iapply (body m ρ K c gs gc g3) $$ [HG HO Hs Hc H0 H1 H2 H3]
  · isplitl [HG]; · iexact HG
    isplitl [HO]; · unfold owesE; iexists W; iexact HO
    isplitl [Hs]; · iexact Hs
    isplitl [Hc]; · iexact Hc
    isplitl [H0]; · iexact H0
    isplitl [H1]; · iexact H1
    isplitl [H2] <;> iassumption
  unfold owesE
  iintro ⟨He, ⟨%W', HO⟩, H0, H1, H2, H3⟩
  unfold after Dat.owesAt Pipeline.owesWithin
  rw [show (dats m ρ 0 c).owed t0_0.succ = 0 from rfl]
  isplitl [He]; · iexact He
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

set_option maxRecDepth 4000 in
/-- The region's obligation on the kernel. -/
theorem obligation (c : Dev nD) : BodyObligation (dats (F := F) m ρ 0 c) (defs₀ (F := F)) 𝒱₀ () Set.univ := fun t => by
  rw [show t = t0_0 from fin_N0 t]
  rw [bigSep_W0 (fun w => _), bigSep_W0 (fun w => _)]
  simp only [owns_held]
  exact point m ρ c

/-! ## The launch: cells and tokens -/

/-- The kernel's own eight semaphores. -/
abbrev osem : Fin 4 ⊕ Fin 4 → SemLoc sig
  | .inl j => .dma (sendS j)
  | .inr j => .dma (recvS j)
/-- The kernel's own semaphores are apart from each other and from those of the staging. -/
theorem ownSemFacts : Pipeline.OwnSemFacts cfg0.spec osem := by decide

/-- Every window is held outright. -/
theorem share_eq (c : Dev nD) (w : Fin cfg0.W) : (dats m ρ 0 c).share w = fullShare := by unfold Dat.share; split <;> rfl

omit [FloatOps F] in
/-- A device's nine semaphores are different. -/
theorem csem_inj : Function.Injective csem := by
  rintro (_ | j | j) (_ | i | i) h
  · rfl
  · exact absurd h.symm (dma_ne_bar _)
  · exact absurd h.symm (dma_ne_bar _)
  · exact absurd h (dma_ne_bar _)
  · exact congrArg (fun j => iS j) (sendS_inj (dma_inj h))
  · exact absurd (dma_inj h) (send_ne_recv _ _)
  · exact absurd h (dma_ne_bar _)
  · exact absurd (dma_inj h).symm (send_ne_recv _ _)
  · exact congrArg (fun j => iV j) (recvS_inj (dma_inj h))

omit [FloatOps F] in
/-- All the cells of all the devices are different. -/
theorem kcell_inj : Function.Injective kcell := by
  rintro ⟨c, i⟩ ⟨d, j⟩ h
  have h1 : c = d := congrArg (fun g : GSem nD τ sig => g.1.1) h
  have h2 : i = j := csem_inj (congrArg Prod.snd h)
  rw [h1, h2]
/-- All the cells. -/
def theCells : Finset (GSem nD τ sig) := Finset.univ.map ⟨kcell, kcell_inj⟩

/-- The tokens of a device's cells: the barrier's four, one each of the receive and of the send semaphores. (Those by which it
    would pay itself go unused.) -/
abbrev TokIx : Type := Fin 4 ⊕ Fin 4 ⊕ Fin 4
/-- The cell, the round and the payer of each token. -/
abbrev tok (c : Dev nD) : TokIx → GSem nD τ sig × ℕ × Fin 4
  | .inl k => (barCell c, 0, k)
  | .inr (.inl k) => (recvCell c k, 0, k)
  | .inr (.inr k) => (sendCell c k, 0, k)
omit [FloatOps F] in
/-- All the tokens are different. -/
theorem tok_inj : Function.Injective fun p : Dev nD × TokIx => tok p.1 p.2 := by
  rintro ⟨c, i⟩ ⟨d, j⟩ h
  have h1 : c = d := by
    have := congrArg (fun x : GSem nD τ sig × ℕ × Fin 4 => x.1.1.1) h
    rcases i with i | i | i <;> rcases j with j | j | j <;> exact this
  have h2 : (tok c i).1.2 = (tok d j).1.2 := congrArg (fun x : GSem nD τ sig × ℕ × Fin 4 => x.1.2) h
  have h3 : (tok c i).2.2 = (tok d j).2.2 := congrArg (fun x : GSem nD τ sig × ℕ × Fin 4 => x.2.2) h
  subst h1
  rcases i with i | i | i <;> rcases j with j | j | j <;> first
    | (have e : i = j := h3; rw [e]; done)
    | exact absurd h2 (dma_ne_bar _)
    | exact absurd h2.symm (dma_ne_bar _)
    | exact absurd (dma_inj h2) (send_ne_recv _ _)
    | exact absurd (dma_inj h2).symm (send_ne_recv _ _)
/-- All the tokens. -/
def theToks : Finset (GSem nD τ sig × ℕ × Fin 4) := Finset.univ.map ⟨fun p : Dev nD × TokIx => tok p.1 p.2, tok_inj⟩

/-- The ghost state at launch: that of the staging, and all cells and tokens of the exchange. -/
def u₀ : UU :=
  (initOf (Pipeline.cells cfgs cellOf_inj) (Pipeline.launchToks cfgs cellOf_inj), initOf theCells theToks)

/-- The tokens of device `c`'s own cells. -/
def toks (c : Dev nD) : sProp 𝕄 :=
  iprop((bigSep Finset.univ fun k : Fin 4 => dutyTok ER (barCell c) 0 k) ∗ (bigSep Finset.univ fun k : Fin 4 => dutyTok ER (recvCell c k) 0 k)
    ∗ (bigSep Finset.univ fun k : Fin 4 => dutyTok ER (sendCell c k) 0 k))
/-- Its positions, at the start of round 0 of each. -/
def places (c : Dev nD) : sProp 𝕄 := bigSep Finset.univ fun i : CellIx => atPos ER (kcell (c, i)) 0 ∅ 0
/-- The marks that its cells have reached round 0. -/
def marks (c : Dev nD) : sProp 𝕄 := bigSep Finset.univ fun i : CellIx => reached ER (kcell (c, i)) 0
/-- What the launch element deals device `c`. -/
def G (c : Dev nD) : sProp 𝕄 :=
  iprop((bigSep Finset.univ fun i : CellIx => roundState ER (Rd m ρ) (kcell (c, i)) 0) ∗ places c ∗ marks c ∗ toks c)

/-- A device's nine cells: barrier, sends, receives. -/
theorem nine (Φ : CellIx → sProp 𝕄) : bigSep Finset.univ Φ
    = iprop(Φ iB ∗ (bigSep Finset.univ fun k : Fin 4 => Φ (iS k)) ∗ (bigSep Finset.univ fun k : Fin 4 => Φ (iV k))) := by
  rw [BI.bigSep_univ_sum, BI.bigSep_univ_sum, BI.bigSep_univ_of_subsingleton (i := ())]; rfl

/-- The ghost state at launch is dealt out to the devices. -/
theorem fund : BI.own (ER (initOf theCells theToks)) ⊢ (|==> bigSep Finset.univ (G m ρ) : sProp 𝕄) := by
  have hC (Φ : GSem nD τ sig → sProp 𝕄) : bigSep theCells Φ = bigSep Finset.univ fun c : Dev nD => bigSep Finset.univ fun i : CellIx => Φ (kcell (c, i)) := by
    unfold theCells; rw [bigSep_map, bigSep_univ_prod]; rfl
  have hT : bigSep theToks (fun x => (dutyTok ER x.1 x.2.1 x.2.2 : sProp 𝕄)) = bigSep Finset.univ fun c : Dev nD => toks c := by
    unfold theToks; rw [bigSep_map, bigSep_univ_prod]
    exact bigSep_congr fun c _ => by unfold toks; rw [BI.bigSep_univ_sum, BI.bigSep_univ_sum]; rfl
  iintro H
  imod (Rounds.fund ER (Rd m ρ) theCells theToks) $$ H with ⟨Hst, Hr, Hat, Htok⟩
  imodintro
  ihave Hst' := (Entails.of_eq (hC fun g => roundState ER (Rd m ρ) g 0)) $$ Hst
  ihave Hat' := (Entails.of_eq (hC fun g => atPos ER g 0 ∅ 0)) $$ Hat
  ihave Hr' := (Entails.of_eq (hC fun g => reached ER g 0)) $$ Hr
  ihave Htok' := (Entails.of_eq hT) $$ Htok
  unfold G places marks; simp only [bigSep_sep']
  isplitl [Hst']; · iexact Hst'
  isplitl [Hat']; · iexact Hat'
  isplitl [Hr'] <;> iassumption

/-- The kernel's own semaphores are the sends and the receives. -/
theorem own_eq (c : Dev nD) : (Pipeline.ownSems0 (Ix := Unit) (Name := ℕ) (U := UU) (Lvl := ℕ) (Val := Elt F) (τ := τ) osem c : sProp 𝕄)
    = iprop((bigSep Finset.univ fun k : Fin 4 => semVal (sendCell c k) 0) ∗ (bigSep Finset.univ fun k : Fin 4 => semVal (recvCell c k) 0)) := by
  unfold Pipeline.ownSems0; rw [BI.bigSep_univ_sum]; rfl
/-- The one semaphore besides is the barrier. -/
theorem unscoped_eq (c : Dev nD) : (unscopedSems0 c : sProp 𝕄) = semVal (barCell c) 0 := by
  unfold unscopedSems0; rw [bigSep_eq_bigSepL_of_eq [SemLoc.reg barS] (by decide) (by decide)]; rfl

/-- What one device has after its cells are made. -/
def dealt (c : Dev nD) : sProp 𝕄 :=
  iprop((bigSep Finset.univ fun i : CellIx => iprop(∃ κ : ℕ, cellInv ER (Rd m ρ) κ (kcell (c, i)))) ∗ places c ∗ marks c ∗ toks c)

/-- Each semaphore at zero, with its round's state, makes a cell. -/
theorem make (c : Dev nD) :
    iprop(Pipeline.ownSems0 (Ix := Unit) (Name := ℕ) (U := UU) (Lvl := ℕ) (Val := Elt F) (τ := τ) osem c ∗ unscopedSems0 c ∗ G m ρ c)
      ⊢ |={Set.univ}=> dealt m ρ c := by
  have h : iprop((bigSep Finset.univ fun i : CellIx => semVal (kcell (c, i)) 0) ∗ bigSep Finset.univ fun i : CellIx => roundState ER (Rd m ρ) (kcell (c, i)) 0)
      ⊢ (|={Set.univ}=> bigSep Finset.univ fun i : CellIx => iprop(∃ κ : ℕ, cellInv ER (Rd m ρ) κ (kcell (c, i))) : sProp 𝕄) := by
    rw [← bigSep_sep']
    exact (bigSep_mono fun i _ => (Rounds.body_intro ER (Rd m ρ) (kcell (c, i))).trans inv_alloc).trans (bigSep_fupd _ _)
  unfold G dealt
  rw [own_eq, unscoped_eq]
  iintro ⟨⟨HS, HV⟩, HB, Hst, Hrest⟩
  imod h $$ [HS HV HB Hst] with HI
  · isplitl [HS HV HB]
    · rw [nine]
      isplitl [HB]; · iexact HB
      isplitl [HS] <;> iassumption
    iexact Hst
  imodintro
  isplitl [HI] <;> iassumption

/-- The tokens dealt out: device `c` gets, for each `k`, those of `peer c k` that name `c`'s own `y`, which is what
    `swap` says. -/
theorem dealing : (bigSep Finset.univ fun c : Dev nD => (toks c : sProp 𝕄))
    ⊢ bigSep Finset.univ fun c : Dev nD => bigSep Finset.univ fun k : Fin 4 => payToks (F := F) c k := by
  have h (Φ : Dev nD × Fin 4 → sProp 𝕄) : (bigSep Finset.univ fun c : Dev nD => bigSep Finset.univ fun k : Fin 4 => Φ (c, k))
      = bigSep Finset.univ fun c : Dev nD => bigSep Finset.univ fun k : Fin 4 => Φ (peer c k, y c) := by
    rw [← bigSep_univ_prod, bigSep_univ_equiv swap, bigSep_univ_prod]; rfl
  unfold toks payToks
  simp only [bigSep_sep']
  rw [h fun p => dutyTok ER (barCell p.1) 0 p.2, h fun p => dutyTok ER (recvCell p.1 p.2) 0 p.2]

/-- What device `c` has of its own once all is dealt. -/
def share (c : Dev nD) : sProp 𝕄 := iprop(places c ∗ bigSep Finset.univ fun k : Fin 4 => payToks (F := F) c k)
/-- The same with the records. -/
def G' (c : Dev nD) : sProp 𝕄 := iprop(∃ K, records m ρ K ∗ share c)

/-- All that was made is dealt out: the records to all, the tokens to those who pay with them. -/
theorem deal : bigSep Finset.univ (dealt m ρ) ⊢ bigSep Finset.univ (G' m ρ) := by
  unfold dealt
  rw [bigSep_sep', bigSep_sep', bigSep_sep', ← bigSep_univ_prod (fun ck : Dev nD × CellIx => iprop(∃ κ : ℕ, cellInv ER (Rd m ρ) κ (kcell ck)))]
  iintro ⟨HI, Hat, HR, Htok⟩
  ihave HK := (BI.bigSep_exists_pi Finset.univ (fun (ck : Dev nD × CellIx) (κ : ℕ) => (cellInv ER (Rd m ρ) κ (kcell ck) : sProp 𝕄))) $$ HI
  icases HK with ⟨%K, HI⟩
  ihave Htok := dealing $$ Htok
  ihave #Hrec : records m ρ K $$ [HI HR]
  · unfold records
    isplitl [HI]; · iexact HI
    iapply (Entails.of_eq (bigSep_univ_prod (fun ck : Dev nD × CellIx => (reached ER (kcell ck) 0 : sProp 𝕄))).symm)
    unfold marks; iexact HR
  iapply ((sep_mono_left (BI.bigSep_of_persistent Finset.univ (records m ρ K))).trans
    ((Entails.of_eq (bigSep_sep' Finset.univ (fun _ : Dev nD => records m ρ K) share).symm).trans
      (bigSep_mono fun c _ => show iprop(records m ρ K ∗ share c) ⊢ G' m ρ c from by unfold G'; iintro H; iexists K; iexact H)))
  isplitr; · iexact Hrec
  unfold share
  iapply (Entails.of_eq (bigSep_sep' Finset.univ places fun c : Dev nD => bigSep Finset.univ fun k : Fin 4 => payToks (F := F) c k).symm)
  isplitl [Hat] <;> iassumption

/-- The cells are made on all devices, and all is dealt out. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => make m ρ c).trans (bigSep_fupd _ _)).trans (BI.fupd_mono (deal m ρ))

/-! ## The launch: credit -/

section Credit

/-- What a device owes, summed over those it owes it to. -/
theorem owed_sum (d : Dev nD) (g : GSem nD τ sig) : O₀ d g () = ∑ k : Fin 4, (tR d k g () + tB d k g ()) := by
  unfold O₀ OR
  rw [Fin.sum_univ_four]
  simp only [Pi.add_apply, Finsupp.add_apply, Pi.zero_apply, Finsupp.zero_apply]
  ring

/-- Summed over all devices: by `swap`, over those that owe it to `c` and the place it is owed at. -/
theorem owed_total (g : GSem nD τ sig) : ∑ d : Dev nD, O₀ d g ()
    = ∑ d : Dev nD, ∑ k : Fin 4, (tR (peer d k) (y d) g () + tB (peer d k) (y d) g ()) := by
  rw [Finset.sum_congr rfl fun d _ => owed_sum d g, ← Fintype.sum_prod_type' fun (d : Dev nD) (k : Fin 4) => tR d k g () + tB d k g (),
    ← Equiv.sum_comp swap, Fintype.sum_prod_type]
  rfl

/-- The landings owed to device `d`, seen from `d`. -/
theorem tR_back (d : Dev nD) (k : Fin 4) (g : GSem nD τ sig) :
    tR (peer d k) (y d) g () = if k ≠ y d ∧ g = recvCell d k then N else 0 := by
  unfold tR
  rw [y_peer, peer_back]
  by_cases h : y d = k
  · rw [if_pos h, if_neg (fun h' => h'.1 h.symm)]; rfl
  · rw [if_neg h, tallyAt_apply]
    exact if_congr ⟨fun h' => ⟨fun e => h e.symm, h'.1⟩, fun h' => ⟨h'.2, rfl⟩⟩ rfl rfl
/-- The ready units owed to device `d`, seen from `d`. -/
theorem tB_back (d : Dev nD) (k : Fin 4) (g : GSem nD τ sig) :
    tB (peer d k) (y d) g () = if k ≠ y d ∧ g = barCell d then 1 else 0 := by
  unfold tB
  rw [y_peer, peer_back]
  by_cases h : y d = k
  · rw [if_pos h, if_neg (fun h' => h'.1 h.symm)]; rfl
  · rw [if_neg h, tallyAt_apply]
    exact if_congr ⟨fun h' => ⟨fun e => h e.symm, h'.1⟩, fun h' => ⟨h'.2, rfl⟩⟩ rfl rfl

/-- At a barrier three units are due. -/
theorem credit_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, owed_total, Finset.sum_eq_single c]
  · rw [Finset.sum_congr rfl fun k _ => congrArg₂ (· + ·)
      ((tR_back c k (barCell c)).trans (if_neg fun h => dma_ne_bar _ (congrArg Prod.snd h.2).symm))
      ((tB_back c k (barCell c)).trans (if_congr (and_iff_left rfl) rfl rfl))]
    rw [Finset.sum_congr rfl fun k _ => Nat.zero_add _, ← Finset.sum_filter, Finset.sum_const, card_others, smul_eq_mul]
  · intro d _ hd
    refine Finset.sum_eq_zero fun k _ => ?_
    rw [tR_back, tB_back, if_neg fun h => dma_ne_bar _ (congrArg Prod.snd h.2).symm,
      if_neg fun h => hd (congrArg (fun g : GSem nD τ sig => g.1.1) h.2).symm, Nat.add_zero]
  · exact fun h => absurd (Finset.mem_univ c) h

/-- At a receive semaphore a transfer is due, except at the device's own. -/
theorem credit_recv (c : Dev nD) (j : Fin 4) :
    tallyOn (recvCell c j) (launchCredit (Pipeline.owing O₀) 0 (recvCell c j))
      = (if j = y c then 0 else tallyAt (recvCell c j) () N : CellTallies nD τ sig Unit) := by
  have h : ∀ d k, tR (peer d k) (y d) (recvCell c j) () + tB (peer d k) (y d) (recvCell c j) ()
      = if d = c ∧ k = j then (if j = y c then 0 else N) else 0 := fun d k => by
    rw [tR_back, tB_back, if_neg (c := k ≠ y d ∧ recvCell c j = barCell d) fun h => dma_ne_bar _ (congrArg Prod.snd h.2), Nat.add_zero]
    by_cases e : d = c ∧ k = j
    · obtain ⟨rfl, rfl⟩ := e
      rw [if_pos (c := d = d ∧ k = k) ⟨rfl, rfl⟩]
      by_cases hk : k = y d
      · rw [if_pos (c := k = y d) hk, if_neg fun h => h.1 hk]
      · rw [if_neg (c := k = y d) hk, if_pos ⟨hk, rfl⟩]
    · rw [if_neg e, if_neg fun h => e ⟨(congrArg (fun g : GSem nD τ sig => g.1.1) h.2).symm, (recvS_inj (dma_inj (congrArg Prod.snd h.2))).symm⟩]
  have ht : ∑ d : Dev nD, O₀ d (recvCell c j) () = if j = y c then 0 else N := by
    rw [owed_total, Finset.sum_eq_single c, Finset.sum_eq_single j]
    · rw [h, if_pos ⟨rfl, rfl⟩]
    · exact fun k _ hk => (h c k).trans (if_neg fun e => hk e.2)
    · exact fun h => absurd (Finset.mem_univ j) h
    · exact fun d _ hd => Finset.sum_eq_zero fun k _ => (h d k).trans (if_neg fun e => hd e.1)
    · exact fun h => absurd (Finset.mem_univ c) h
  by_cases hj : j = y c
  · rw [if_pos hj] at ht ⊢
    refine (congrArg (tallyOn (recvCell c j)) (Finsupp.ext fun u => ?_)).trans (tallyOn_zero _)
    cases u
    rw [Pipeline.launchCredit_owing, ht]; rfl
  · rw [if_neg hj] at ht ⊢
    unfold tallyAt; refine congrArg _ (Finsupp.ext fun u => ?_); cases u
    rw [Pipeline.launchCredit_owing, Finsupp.single_eq_same, ht]

/-- The credit a device is dealt: three units at its barrier, a landing in each slot but its own. -/
theorem creds (c : Dev nD) :
    (Pipeline.launchCred O₀ c : sProp 𝕄) ⊢ iprop(cred (tallyAt (barCell c) () 3)
      ∗ bigSep Finset.univ fun k : Fin 4 => if k = y c then iprop(emp) else cred (tallyAt (recvCell c k) () N)) := by
  unfold Pipeline.launchCred
  rw [bigSep_univ_at _ (SemLoc.reg barS), credit_bar]
  refine sep_mono_right ?_
  have hs : (Finset.univ.map ⟨fun k : Fin 4 => (SemLoc.dma (recvS k) : SemLoc sig), fun i j h => recvS_inj (dma_inj h)⟩)
      ⊆ Finset.univ.erase (SemLoc.reg barS : SemLoc sig) := fun x hx => by
    obtain ⟨k, -, rfl⟩ := Finset.mem_map.mp hx
    exact Finset.mem_erase.mpr ⟨dma_ne_bar _, Finset.mem_univ _⟩
  rw [BI.bigSep_sdiff_split hs, bigSep_map]
  refine (sep_elim_left).trans (bigSep_mono fun k _ => ?_)
  by_cases hk : k = y c
  · rw [if_pos hk]; exact fun _ _ => trivial
  · rw [if_neg hk]
    exact Entails.of_eq (congrArg (fun t => (cred t : sProp 𝕄)) ((credit_recv c k).trans (if_neg hk)))

end Credit

/-! ## The run -/

/-- What the launch deals a device is what its kernel starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G' share places start holds
  rw [nine]
  iintro ⟨-, Hlev, Hcr, -, ⟨%K, HR, ⟨HB, HS, HV⟩, Htok⟩⟩
  ihave Hc := (creds (F := F) c) $$ Hcr
  icases Hc with ⟨Hc1, Hc2⟩
  imodintro
  isplitl
  · iexists K
    isplitl [HR]; · iexact HR
    isplitl [HB]; · iexact HB
    isplitl [HS]; · iexact HS
    isplitl [HV]; · iexact HV
    isplitl [Htok]; · iexact Htok
    isplitl [Hc1]; · iexact Hc1
    isplitl [Hc2] <;> iassumption
  · iempintro

/-- With the scratch buffers that is the pipeline's first state. -/
theorem entry (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

/-- At the end the scratch buffers and the semaphores, all at zero, are given back. -/
theorem exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = ends c from rfl, scopedRest0_eq, own_eq, unscoped_eq]
  unfold ends
  iintro ⟨HB, HS, HV, Hs, Hc⟩
  isplitl [HB]; · iexact HB
  isplitl [HS HV]; · isplitl [HS] <;> iassumption
  isplitl [Hs] <;> iassumption

/-- The staging's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What the windows' arrays hold after the run. -/
def finalA (c : Dev nD) (w : Fin cfg0.W) : Buf (Elt F) ((cfg0.win w).arr.view.loc (c : Thread nD τ)) := (dats m ρ 0 c).arrAt w cfg0.N

/-- All windows' arrays hold `finalA`. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every fair execution of the program on the thirty-two devices
    ends, with the windows' arrays at `finalA` and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (obligation m ρ c).loose) (hne := fun w => by fin_cases w <;> exact Nat.succ_pos _)
    (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := entry m ρ) (hout := exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The inputs' arrays hold what they held, -/
theorem final_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.Exchange

end
-- ==== Proof.Frames.lean ====
/-
# The frame claims

Each program runs to its end without fault, leaves its arguments as they were, and ends with every semaphore counter at
zero. The two printings of the kernel have one text, so both read the one run of Run.lean, each at its own float values.
-/
module

public import proofs.«01_k».proof.Defs
public import proofs.«01_k».proof.Proof.Run
public import proofs.«01_k».proof.Proof.Gen.Kernel
public import proofs.«01_k».proof.Proof.Gen.ReferenceIdeal.Run
public import proofs.«01_k».proof.Proof.Gen.Pre_finite_scores_KernelIdeal
public import proofs.«01_k».proof.Proof.Gen.Pre_finite_scores_ReferenceIdeal
public import Idealize.ShloMosaic.Lib.Quiescent

@[expose] public section

noncomputable section

namespace Cert.Exchange

open Idealize.ShloMosaic
open Idealize.ShloMosaic.TcCoe
open Idealize.SL.Sem

/-- The kernel's run, read at its three argument arrays and its counters, for any float values. -/
theorem run_frame {F : FTy → Type} [FloatOps F]
    (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem ((c.tc : Thread KernelIdeal.nD KernelIdeal.τ).loc KernelIdeal.main_arg0) = m ((c.tc : Thread KernelIdeal.nD KernelIdeal.τ).loc KernelIdeal.main_arg0)
        ∧ r.2.mem ((c.tc : Thread KernelIdeal.nD KernelIdeal.τ).loc KernelIdeal.main_arg1) = m ((c.tc : Thread KernelIdeal.nD KernelIdeal.τ).loc KernelIdeal.main_arg1)
        ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run KernelIdeal.defs _ _).mono
    (fun _ h => ⟨fun c => ⟨(h.1 c (0 : Fin 4)).trans (final_in m ρ c (0 : Fin 4) rfl),
      (h.1 c (1 : Fin 4)).trans (final_in m ρ c (1 : Fin 4) rfl),
      (h.1 c (2 : Fin 4)).trans (final_in m ρ c (2 : Fin 4) rfl)⟩, h.2⟩)
    (run_main m ρ)

/-- The two printings' body tables are one: at the one label each has, both run the same body. -/
theorem table_eq : Kernel.defs₀ (F := Bits) = KernelIdeal.defs₀ (F := Bits) := by
  unfold Kernel.defs₀ KernelIdeal.defs₀
  refine congrArg Defs.onTc (funext fun l => funext fun x => ?_)
  fin_cases l
  rfl

/-- So the tables with the region's own labels are one too. -/
theorem defs_eq : Kernel.defs (F := Bits) = KernelIdeal.defs (F := Bits) :=
  congrArg (Pipeline.defs KernelIdeal.pcfgs) table_eq

/-- The frame of the kernel as it is written. -/
theorem frame_kernel : Cert.quiescent_Kernel := by
  intro m ρ _
  rw [defs_eq]
  exact run_frame (F := Bits) m ρ

/-- The frame of the kernel over the extended reals. -/
theorem frame_ideal : Cert.quiescent_KernelIdeal := fun m ρ _ => run_frame (F := Ideal) m ρ

/-- The same frame, asked for again under the precondition of the value claim. -/
theorem frame_ideal_finite : Cert.quiescent_KernelIdeal_pre_finite_scores_KernelIdeal :=
  fun m ρ _ => run_frame (F := Ideal) m ρ

/-- The frame of the reference, which has one device and declares no semaphore. -/
theorem frame_reference : Cert.quiescent_ReferenceIdeal := fun m ρ _ =>
  (θ_run ReferenceIdeal.defs _ _).mono
    (fun r h => ⟨fun c => (h c).2, Idealize.ShloMosaic.sem_eq_zero_of_no_sems (by decide) r.2⟩)
    (ReferenceIdeal.Value.run (F := Ideal) m ρ)

/-- The same frame, asked for again under the precondition of the value claim. -/
theorem frame_reference_finite : Cert.quiescent_ReferenceIdeal_pre_finite_scores_ReferenceIdeal :=
  fun m ρ _ => frame_reference m ρ trivial

end Cert.Exchange

end
-- ==== Proof.Softmax.lean ====
/-
# Softmax over the extended reals

The kernel divides the sum of the weighted values by the sum of the weights. The reference first subtracts the greatest
score and divides every weight by their sum. With real scores the two agree, whatever the values are: every weight is
then a positive real, and a positive real factor distributes over any sum of extended reals.
-/
module

public import Idealize.ShloMosaic.PureOps.Ideal

@[expose] public section

noncomputable section

namespace Cert.Exchange

open Idealize.ShloMosaic

/-- A sum of reals, taken over the extended reals, is the real sum. -/
theorem sum_coe {n : Nat} (f : Fin n → ℝ) : ∑ t, ((f t : ℝ) : EReal) = ((∑ t, f t : ℝ) : EReal) :=
  (map_sum (⟨⟨Real.toEReal, EReal.coe_zero⟩, EReal.coe_add⟩ : ℝ →+ EReal) f Finset.univ).symm

/-- A real factor that is not negative distributes over a sum of extended reals. -/
theorem sum_mul_coe {n : Nat} (f : Fin n → EReal) (x : ℝ) (hx : 0 ≤ x) : (∑ t, f t) * (x : EReal) = ∑ t, f t * (x : EReal) :=
  map_sum (⟨⟨fun y : EReal => y * (x : EReal), zero_mul _⟩, fun a b =>
    EReal.right_distrib_of_nonneg_of_ne_top (by exact_mod_cast hx) (EReal.coe_ne_top x) a b⟩ : EReal →+ EReal) f Finset.univ

/-- The greatest of some real scores, at least one, is real. -/
theorem fold_max_coe {n : Nat} (hn : 0 < n) (s : Fin n → ℝ) :
    ∃ r : ℝ, Finset.fold max (⊥ : EReal) (fun t => (s t : EReal)) Finset.univ = (r : EReal) := by
  refine ⟨_, (EReal.coe_toReal ?_ ?_).symm⟩
  · exact ne_of_lt ((Finset.fold_max_lt _).2 ⟨bot_lt_top, fun t _ => EReal.coe_lt_top _⟩)
  · exact ne_of_gt ((Finset.lt_fold_max _).2 (.inr ⟨⟨0, hn⟩, Finset.mem_univ _, EReal.bot_lt_coe _⟩))

/-- The two ways of weighing the values agree when the scores are real. -/
theorem softmax_eq {n : Nat} (hn : 0 < n) (s : Fin n → ℝ) (r : ℝ) (v : Fin n → EReal) :
    Ideal.div (∑ t, Ideal.exp (s t) * v t) (∑ t, Ideal.exp (s t))
      = ∑ t, v t * Ideal.div (Ideal.exp ((s t : EReal) - (r : EReal))) (∑ u, Ideal.exp ((s u : EReal) - (r : EReal))) := by
  have hne : (Finset.univ : Finset (Fin n)).Nonempty := ⟨⟨0, hn⟩, Finset.mem_univ _⟩
  have hL : 0 < ∑ t, Real.exp (s t) := Finset.sum_pos (fun t _ => Real.exp_pos _) hne
  have hL' : 0 < ∑ t, Real.exp (s t - r) := Finset.sum_pos (fun t _ => Real.exp_pos _) hne
  have hw : ∀ t, Real.exp (s t - r) * (1 / ∑ u, Real.exp (s u - r)) = Real.exp (s t) * (1 / ∑ u, Real.exp (s u)) := fun t => by
    simp only [Real.exp_sub, ← Finset.sum_div]
    have := Real.exp_ne_zero r
    field_simp
  simp only [← EReal.coe_sub, Ideal.exp_coe, sum_coe]
  rw [Ideal.div_coe hL.ne', sum_mul_coe _ _ (by positivity)]
  refine Finset.sum_congr rfl fun t _ => ?_
  rw [Ideal.div_coe hL'.ne', ← EReal.coe_mul, hw, EReal.coe_mul, mul_comm ((Real.exp (s t) : ℝ) : EReal) (v t), mul_assoc]

end Cert.Exchange

end
-- ==== Proof.Value.lean ====
/-
# The value

What every device ends with, element by element, is what the reference computes from the whole arrays. A device's
partial sums run over its own quarter of the sequence; the four devices along `y` hold the four quarters, so the total
of their partial sums runs over the whole sequence. The rest is Softmax.lean.
-/
module

public import proofs.«01_k».proof.Proof.Frames
public import proofs.«01_k».proof.Proof.Softmax
public import Idealize.ShloMosaic.Lib.Pointwise
public import Idealize.ShloMosaic.Lib.Layout
public import Idealize.ShloMosaic.Lib.ReduceAll

@[expose] public section

noncomputable section

namespace Cert.Exchange

open Idealize.ShloMosaic Idealize.ShloMosaic.Pointwise Idealize.ShloMosaic.TcCoe Idealize.SL.Sem

/-! ## The constants -/

/-- The scale of the scores as the kernel spells it, -/
theorem scale_bf16 : Ideal.ofBits .bf16 0x3E00#16 = ((1 / 8 : ℝ) : EReal) := by
  simp [Ideal.ofBits, Ideal.ieee, -EReal.coe_mul]; norm_num

/-- and as the reference does. -/
theorem scale_f32 : Ideal.ofBits .f32 0x3E000000#32 = ((1 / 8 : ℝ) : EReal) := by
  simp [Ideal.ofBits, Ideal.ieee, -EReal.coe_mul]; norm_num

/-- The bound of the precondition. -/
theorem bound_bf16 : Ideal.ofBits .bf16 0x7F80#16 = ⊤ := by simp [Ideal.ofBits, Ideal.ieee]

/-- The start of the reference's maximum. -/
theorem lowest_f32 : Ideal.ofBits .f32 0xFF800000#32 = ⊥ := by simp [Ideal.ofBits, Ideal.ieee]

/-- One score: the product of a query and a key, scaled. -/
def score {n : Nat} (Q : FVec Ideal ⟨4, ![8, 1, 8, 64]⟩ .bf16) (K : FVec Ideal ⟨4, ![8, n, 8, 64]⟩ .bf16) (b h : Fin 8) (t : Fin n) : EReal :=
  (∑ d : Fin 64, Q (ix4 b 0 h d) * K (ix4 b t h d)) * ((1 / 8 : ℝ) : EReal)

/-! ## The reference -/

section Reference

open Cert.ReferenceIdeal Cert.ReferenceIdeal.Gen

/-- The reference's scores. -/
def scores (Q : FVec Ideal S8x1x8x64 .bf16) (K : FVec Ideal S8x2048x8x64 .bf16) : FVec Ideal S8x8x1x2048 .f32 :=
  mulf (Host.dotGeneral dot_S8x1x8x64_S8x2048x8x64_S8x8x1x2048_3_3_1_1_02_02 none (extf .f32 Q bitsLt_bf16_f32) (extf .f32 K bitsLt_bf16_f32))
    (broadcastInDim S8x8x1x2048 ![] bcast_S_S8x8x1x2048 (constant S_ .f32 0x3E000000#32))

/-- The greatest score of every head. -/
def tops (S : FVec Ideal S8x8x1x2048 .f32) : FVec Ideal S8x8x1 .f32 :=
  Host.reduce FloatOps.maximumf S (constant S_ .f32 0xFF800000#32) reducesTo_S8x8x1x2048_S8x8x1_d3 h_S_

/-- One number of every head, repeated along the sequence. -/
def along (x : FVec Ideal S8x8x1 .f32) : FVec Ideal S8x8x1x2048 .f32 :=
  broadcastInDim S8x8x1x2048 ![0, 1, 2, 3] bcast_S8x8x1x1_S8x8x1x2048_0_1_2_3
    (broadcastInDim S8x8x1x1 ![0, 1, 2] bcast_S8x8x1_S8x8x1x1_0_1_2 x)

/-- The weights before they are divided. -/
def weights (S : FVec Ideal S8x8x1x2048 .f32) : FVec Ideal S8x8x1x2048 .f32 := Host.exp (subf S (along (tops S)))

/-- The reference's result. -/
def refOut (Q : FVec Ideal S8x1x8x64 .bf16) (K V : FVec Ideal S8x2048x8x64 .bf16) : FVec Ideal S8x1x8x64 .f32 :=
  transpose S8x1x8x64 [0, 3, 1, 2]
    (Host.dotGeneral dot_S8x2048x8x64_S8x8x1x2048_S8x8x64x1_1_3_3_2_02_01 none (extf .f32 V bitsLt_bf16_f32)
      (Host.divf (weights (scores Q K))
        (along (Host.reduceAdd (weights (scores Q K)) (constant S_ .f32 0x00000000#32) reducesTo_S8x8x1x2048_S8x8x1_d3 h_S_))))
    transposes_S8x8x64x1_S8x1x8x64_0_3_1_2

/-- The score of a place in the sequence. -/
theorem scores_apply (Q : FVec Ideal S8x1x8x64 .bf16) (K : FVec Ideal S8x2048x8x64 .bf16) (b h : Fin 8) (t : Fin 2048) :
    scores Q K (ix4 b h (0 : Fin 1) t) = score Q K b h t := by
  pointwise [scores]
  rw [scale_f32]
  rfl

/-- The greatest score of a head. -/
theorem tops_apply (S : FVec Ideal S8x8x1x2048 .f32) (b h : Fin 8) :
    tops S (ix3 b h (0 : Fin 1)) = Finset.fold max (⊥ : EReal) (fun t : Fin 2048 => S (ix4 b h 0 t)) Finset.univ := by
  pointwise [tops]
  rw [lowest_f32]

/-- The weight of a place, before it is divided. -/
theorem weights_apply (S : FVec Ideal S8x8x1x2048 .f32) (b h : Fin 8) (t : Fin 2048) :
    weights S (ix4 b h (0 : Fin 1) t) = Ideal.exp (S (ix4 b h 0 t) - tops S (ix3 b h 0)) := by
  pointwise [weights, along]

/-- The result at an index: the values weighed. -/
theorem refOut_apply (Q : FVec Ideal S8x1x8x64 .bf16) (K V : FVec Ideal S8x2048x8x64 .bf16) (b h : Fin 8) (d : Fin 64) :
    refOut Q K V (ix4 b (0 : Fin 1) h d)
      = ∑ t : Fin 2048, V (ix4 b t h d)
          * Ideal.div (weights (scores Q K) (ix4 b h 0 t)) (∑ u : Fin 2048, weights (scores Q K) (ix4 b h 0 u)) := by
  pointwise [refOut, along]

/-- With real scores the reference is the quotient of two sums over the sequence. -/
theorem refOut_eq (Q : FVec Ideal S8x1x8x64 .bf16) (K V : FVec Ideal S8x2048x8x64 .bf16) (b h : Fin 8) (d : Fin 64)
    (s : Fin 2048 → ℝ) (hs : ∀ t, score Q K b h t = (s t : EReal)) :
    refOut Q K V (ix4 b (0 : Fin 1) h d)
      = Ideal.div (∑ t : Fin 2048, Ideal.exp (score Q K b h t) * V (ix4 b t h d)) (∑ t : Fin 2048, Ideal.exp (score Q K b h t)) := by
  obtain ⟨r, hr⟩ := fold_max_coe (by decide : 0 < 2048) s
  simp only [refOut_apply, weights_apply, tops_apply, scores_apply, hs, hr]
  exact (softmax_eq (by decide) s r fun t => V (ix4 b t h d)).symm

/-- The reference's run, with its result under its name. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16)
        = refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Reference

/-! ## One device's partial sums -/

section Kernel

open Cert.KernelIdeal Cert.KernelIdeal.Gen

/-- The weight that the kernel gives a place of its quarter. -/
theorem weight_apply (q : FVec Ideal S8x1x8x64 .bf16) (k : FVec Ideal S8x512x8x64 .bf16) (b h : Fin 8) (t : Fin 512) :
    k0_pay4 (F := Ideal) (k0_pay3 (F := Ideal) q) k (ix4 b t h (0 : Fin 1)) = Ideal.exp (score q k b h t) := by
  pointwise [k0_pay4, k0_pay3]
  rw [scale_bf16]
  rfl

/-- The unnormalised output of one quarter. -/
theorem row_apply (q : FVec Ideal S8x1x8x64 .bf16) (k v : FVec Ideal S8x512x8x64 .bf16) (b h : Fin 8) (d : Fin 64) :
    k0_pay5 (F := Ideal) (k0_pay3 (F := Ideal) q) k v (ix3 b h d) = ∑ t : Fin 512, Ideal.exp (score q k b h t) * v (ix4 b t h d) := by
  pointwise [k0_pay5]
  exact Finset.sum_congr rfl fun t _ => congrArg (· * v (ix4 b t h d)) (weight_apply q k b h t)

/-- The sum of the weights of one quarter. -/
theorem den_apply (q : FVec Ideal S8x1x8x64 .bf16) (k : FVec Ideal S8x512x8x64 .bf16) (b h : Fin 8) :
    k0_pay6 (F := Ideal) (k0_pay3 (F := Ideal) q) k (ix3 b (0 : Fin 1) h) = ∑ t : Fin 512, Ideal.exp (score q k b h t) := by
  pointwise [k0_pay6]
  exact Finset.sum_congr rfl fun t _ => weight_apply q k b h t

/-- The last step divides the summed outputs by the summed weights. -/
theorem finish_apply (u : FVec Ideal S8x9x64 .f32) (b h : Fin 8) (d : Fin 64) :
    finish u (ix4 b (0 : Fin 1) h d)
      = Ideal.div (u (ix3 b ⟨h.val, by omega⟩ d)) (u (ix3 b (8 : Fin 9) ⟨h.val, by omega⟩)) := by
  pointwise [finish]

variable (m : (ℓ : Loc nD τ sig) → Buf (Elt Ideal) ℓ) (ρ : Dev nD → PrngReg)

/-- The argument blocks that the kernel loads are the whole arrays. -/
theorem qstg_eq (c : Dev nD) : qstg m ρ c = m ((c : Thread nD τ).loc main_arg0) :=
  Memref.read_access_unit_zero (Elt Ideal) main_arg0 (funext fun a => by fin_cases a <;> decide) (fun a => by fin_cases a <;> decide) _
/-- The same for K. -/
theorem kstg_eq (c : Dev nD) : kstg m ρ c = m ((c : Thread nD τ).loc main_arg1) :=
  Memref.read_access_unit_zero (Elt Ideal) main_arg1 (funext fun a => by fin_cases a <;> decide) (fun a => by fin_cases a <;> decide) _
/-- The same for V. -/
theorem vstg_eq (c : Dev nD) : vstg m ρ c = m ((c : Thread nD τ).loc main_arg2) :=
  Memref.read_access_unit_zero (Elt Ideal) main_arg2 (funext fun a => by fin_cases a <;> decide) (fun a => by fin_cases a <;> decide) _

/-- The total is the sum of the partial sums of the four devices along `y`: the device's own slot reads zero. -/
theorem total_apply (c : Dev nD) (i : S8x9x64.Idx) : total m ρ c i = ∑ k : Fin 4, selfV m ρ (peer c k) i := by
  have hz : (zf : Ideal .f32) = 0 := Ideal.ofBits_zero_f32
  have hc := peer_y c
  rw [Fin.sum_univ_four]
  show selfV m ρ c i + slotV m ρ c 0 i + slotV m ρ c 1 i + slotV m ρ c 2 i + slotV m ρ c 3 i = _
  have hk : ∀ k, slotV m ρ c k i = if k = y c then 0 else selfV m ρ (peer c k) i := fun k => by
    unfold slotV; split <;> simp [hz]
  rw [show selfV m ρ c i = selfV m ρ (peer c (y c)) i by rw [hc]]
  simp only [hk]
  generalize y c = j
  fin_cases j <;> simp <;> abel

/-- The partial sums of one device. -/
theorem partial_row (c : Dev nD) (b h : Fin 8) (d : Fin 64) :
    selfV m ρ c (ix3 b (⟨h.val, by omega⟩ : Fin 9) d)
      = ∑ t : Fin 512, Ideal.exp (score (m ((c : Thread nD τ).loc main_arg0)) (m ((c : Thread nD τ).loc main_arg1)) b h t)
          * m ((c : Thread nD τ).loc main_arg2) (ix4 b t h d) := by
  unfold selfV
  rw [selfC_row m ρ c _ _ (ix3 b h d) (fun a => by fin_cases a <;> rfl), qstg_eq, kstg_eq, vstg_eq]
  exact row_apply _ _ _ b h d

/-- The sum of the weights of one device. -/
theorem partial_den (c : Dev nD) (b h : Fin 8) :
    selfV m ρ c (ix3 b (8 : Fin 9) (⟨h.val, by omega⟩ : Fin 64))
      = ∑ t : Fin 512, Ideal.exp (score (m ((c : Thread nD τ).loc main_arg0)) (m ((c : Thread nD τ).loc main_arg1)) b h t) := by
  unfold selfV
  rw [selfC_den m ρ c _ _ (ix3 b (0 : Fin 1) h) rfl rfl rfl, qstg_eq, kstg_eq]
  exact den_apply _ _ b h

/-- The result array ends holding the output block. -/
theorem final_out (c : Dev nD) : finalA m ρ c (3 : Fin 4) = outAt m ρ c := by
  refine (Memref.read_access_unit_zero (Elt Ideal) main_v1 (off := fun a => (win0_3.index (0 : Fin 1)) a * main_v1.ty.shape.size a)
    (funext fun a => by fin_cases a <;> decide) (fun a => by fin_cases a <;> decide) _).symm.trans ?_
  show (win0_3.blk (0 : Fin 1)).view.read (Elt Ideal) (finalA m ρ c (3 : Fin 4)) = _
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-! ## The four quarters -/

/-- What device `c` holds of an array cut in four along the sequence. -/
def quarter (c : Dev nD) (X : FVec Ideal Cert.ReferenceIdeal.S8x2048x8x64 .bf16) : FVec Ideal S8x512x8x64 .bf16 :=
  Layout.blockN ⟨4, ![8, 512, 8, 64]⟩ ⟨4, ![8, 2048, 8, 64]⟩ (Layout.meshBlock [2, 4, 4] ![[], [1], [], []] c) X

/-- It is quarter `y c`. -/
theorem quarter_apply (c : Dev nD) (X : FVec Ideal Cert.ReferenceIdeal.S8x2048x8x64 .bf16) (b h : Fin 8) (t : Fin 512) (d : Fin 64) :
    quarter c X (ix4 b t h d)
      = X (ix4 b (⟨(y c).val * 512 + t.val, by omega⟩ : Fin 2048) h d) := by
  unfold quarter
  rw [Layout.blockN_apply]
  refine congrArg X (funext fun a => Fin.ext ?_)
  have hb : Layout.meshLin [2, 4, 4] c.val [1] = (y c).val := by
    revert c; decide
  rw [Layout.TilesN.idx_val]
  fin_cases a
  · exact (Nat.zero_mul 8).symm ▸ Nat.zero_add _
  · exact congrArg (· * 512 + t.val) hb
  · exact (Nat.zero_mul 8).symm ▸ Nat.zero_add _
  · exact (Nat.zero_mul 64).symm ▸ Nat.zero_add _

variable (Q : FVec Ideal Cert.ReferenceIdeal.S8x1x8x64 .bf16) (K V : FVec Ideal Cert.ReferenceIdeal.S8x2048x8x64 .bf16)

/-- So its scores are those of quarter `y c`. -/
theorem score_quarter (c : Dev nD) (b h : Fin 8) (t : Fin 512) :
    score Q (quarter c K) b h t
      = score Q K b h (⟨(y c).val * 512 + t.val, by omega⟩ : Fin 2048) := by
  unfold score
  exact congrArg (· * _) (Finset.sum_congr rfl fun d _ => congrArg (Q (ix4 b 0 h d) * ·) (quarter_apply c K b h t d))

/-- Every device ends with the quotient of the two sums over the whole sequence. -/
theorem out_apply (hQ : ∀ c : Dev nD, m ((c : Thread nD τ).loc main_arg0) = Q)
    (hK : ∀ c : Dev nD, m ((c : Thread nD τ).loc main_arg1) = quarter c K)
    (hV : ∀ c : Dev nD, m ((c : Thread nD τ).loc main_arg2) = quarter c V)
    (c : Dev nD) (b h : Fin 8) (d : Fin 64) :
    outAt m ρ c (ix4 b (0 : Fin 1) h d)
      = Ideal.div (∑ t : Fin 2048, Ideal.exp (score Q K b h t) * V (ix4 b t h d)) (∑ t : Fin 2048, Ideal.exp (score Q K b h t)) := by
  refine (finish_apply _ b h d).trans ?_
  rw [total_apply, total_apply, Fin.sum_univ_tiles 4 512 rfl, Fin.sum_univ_tiles 4 512 rfl]
  refine congrArg₂ Ideal.div (Finset.sum_congr rfl fun k _ => ?_) (Finset.sum_congr rfl fun k _ => ?_)
  · rw [partial_row, hQ, hK, hV]
    refine Finset.sum_congr rfl fun t _ => ?_
    rw [score_quarter, quarter_apply]
    simp only [y_peer]
  · rw [partial_den, hQ, hK]
    refine Finset.sum_congr rfl fun t _ => ?_
    rw [score_quarter]
    simp only [y_peer]

/-! ## The precondition -/

/-- What is below the greatest extended real in absolute value is real. -/
theorem real_of_abs (x : EReal) (h : max x (-x) < ⊤) : ∃ r : ℝ, x = (r : EReal) := by
  induction x with
  | bot => simp at h
  | top => simp at h
  | coe r => exact ⟨r, rfl⟩

/-- Under the precondition the queries and the keys of a device are real. -/
theorem real_of_finite (q : FVec Ideal S8x1x8x64 .bf16) (k v : FVec Ideal S8x512x8x64 .bf16)
    (h : Cert.Pre_finite_scores_KernelIdeal.fn (F := Ideal) q k v = fun _ => 1#1) :
    (∀ i, ∃ r : ℝ, q i = (r : EReal)) ∧ ∀ i, ∃ r : ℝ, k i = (r : EReal) := by
  have h0 := congrFun h ix0
  dsimp only [Cert.Pre_finite_scores_KernelIdeal.fn] at h0
  obtain ⟨hq, hk⟩ := IntOp.andi_eq_one.1 h0
  have : Subsingleton (Cert.Pre_finite_scores_KernelIdeal.S_).Idx := ⟨fun i j => funext fun a => a.elim0⟩
  refine ⟨fun i => real_of_abs _ ?_, fun i => real_of_abs _ ?_⟩
  · exact bound_bf16 ▸ (Ideal.cmp_olt_eq_one _ _).1 (Host.reduce_andi_all _ _ _ _ _ hq i)
  · exact bound_bf16 ▸ (Ideal.cmp_olt_eq_one _ _).1 (Host.reduce_andi_all _ _ _ _ _ hk i)

/-- The scores of real queries and keys are real. -/
theorem score_real {n : Nat} (q : FVec Ideal ⟨4, ![8, 1, 8, 64]⟩ .bf16) (k : FVec Ideal ⟨4, ![8, n, 8, 64]⟩ .bf16)
    (hq : ∀ i, ∃ r : ℝ, q i = (r : EReal)) (hk : ∀ i, ∃ r : ℝ, k i = (r : EReal)) (b h : Fin 8) (t : Fin n) :
    ∃ r : ℝ, score q k b h t = (r : EReal) := by
  choose q' hq using hq
  choose k' hk using hk
  unfold score
  simp only [hq, hk, ← EReal.coe_mul, sum_coe]
  exact ⟨_, rfl⟩

/-! ## The claim -/

end Kernel

/-- `Cert.algebraic_KernelIdeal_ReferenceIdeal_pre_finite_scores_KernelIdeal`: with finite queries and keys every device
    ends with the reference's result. -/
theorem value : Cert.algebraic_KernelIdeal_ReferenceIdeal_pre_finite_scores_KernelIdeal := by
  intro m ρ m' ρ' hpre hagree
  let Q := m' ((Dev.tc (0 : Dev Cert.ReferenceIdeal.nD) : Thread Cert.ReferenceIdeal.nD Cert.ReferenceIdeal.τ).loc Cert.ReferenceIdeal.main_arg0)
  let K := m' ((Dev.tc (0 : Dev Cert.ReferenceIdeal.nD) : Thread Cert.ReferenceIdeal.nD Cert.ReferenceIdeal.τ).loc Cert.ReferenceIdeal.main_arg1)
  let V := m' ((Dev.tc (0 : Dev Cert.ReferenceIdeal.nD) : Thread Cert.ReferenceIdeal.nD Cert.ReferenceIdeal.τ).loc Cert.ReferenceIdeal.main_arg2)
  have hQ : ∀ c : Dev Cert.KernelIdeal.nD, m ((c.tc : Thread Cert.KernelIdeal.nD Cert.KernelIdeal.τ).loc Cert.KernelIdeal.main_arg0) = Q :=
    fun c => (hagree c).1
  have hK : ∀ c : Dev Cert.KernelIdeal.nD, m ((c.tc : Thread Cert.KernelIdeal.nD Cert.KernelIdeal.τ).loc Cert.KernelIdeal.main_arg1) = quarter c K :=
    fun c => (hagree c).2.1
  have hV : ∀ c : Dev Cert.KernelIdeal.nD, m ((c.tc : Thread Cert.KernelIdeal.nD Cert.KernelIdeal.τ).loc Cert.KernelIdeal.main_arg2) = quarter c V :=
    fun c => (hagree c).2.2
  have hreal : ∀ (b h : Fin 8) (t : Fin 2048), ∃ r : ℝ, score Q K b h t = (r : EReal) := by
    intro b h t
    let c := peer 0 (⟨t.val / 512, by omega⟩ : Fin 4)
    have hc : (y c).val = t.val / 512 := congrArg Fin.val (y_peer 0 _)
    have hf := real_of_finite _ _ _ (hpre c)
    rw [hQ, hK] at hf
    obtain ⟨r, hr⟩ := score_real _ _ hf.1 hf.2 b h (⟨t.val % 512, by omega⟩ : Fin 512)
    rw [score_quarter] at hr
    exact ⟨r, (congrArg (score Q K b h) (Fin.ext (by dsimp only; omega))).trans hr⟩
  choose s hs using hreal
  refine ⟨refOut Q K V, ?_, (θ_run _ _ _).mono (fun _ h => h 0) (ref_run m' ρ')⟩
  refine (θ_run _ _ _).mono (fun _ h c => ⟨((h.1 c (3 : Fin 4)).trans (final_out m ρ c)).trans (funext fun i => ?_),
    (h.1 c (0 : Fin 4)).trans (final_in m ρ c (0 : Fin 4) rfl), (h.1 c (1 : Fin 4)).trans (final_in m ρ c (1 : Fin 4) rfl),
    (h.1 c (2 : Fin 4)).trans (final_in m ρ c (2 : Fin 4) rfl)⟩) (run_main (F := Ideal) m ρ)
  have hi : i = ix4 (i 0) (0 : Fin 1) (i 2) (i 3) := funext fun a => by
    fin_cases a
    · rfl
    · exact Subsingleton.elim (α := Fin 1) _ _
    · rfl
    · rfl
  rw [hi]
  exact (out_apply m ρ Q K V hQ hK hV c _ _ _).trans (refOut_eq Q K V _ _ _ (s (i 0) (i 2)) (hs (i 0) (i 2))).symm

end Cert.Exchange

end
-- ==== Proof.lean ====
/- The claims, each proved in the modules this one imports. -/
module

public import proofs.«01_k».proof.Defs
public import proofs.«01_k».proof.Proof.Frames
public import proofs.«01_k».proof.Proof.Value
public import proofs.«01_k».proof.Proof.Gen.Pre_finite_scores_KernelIdeal
public import proofs.«01_k».proof.Proof.Gen.Pre_finite_scores_ReferenceIdeal
public import proofs.«01_k».proof.Proof.Gen.Kernel
public import proofs.«01_k».proof.Proof.Gen.KernelIdeal
public import proofs.«01_k».proof.Proof.Gen.ReferenceIdeal

@[expose] public section

noncomputable section

namespace Cert.Proof

/-- Everything the certificate claims. -/
theorem claim : Cert.Claim :=
  ⟨Cert.Kernel.Gen.facts, Cert.KernelIdeal.Gen.facts, Cert.ReferenceIdeal.Gen.facts,
    Cert.Pre_finite_scores_KernelIdeal.Gen.facts, Cert.Pre_finite_scores_ReferenceIdeal.Gen.facts,
    Cert.Exchange.frame_kernel, Cert.Exchange.frame_ideal, Cert.Exchange.frame_ideal_finite,
    Cert.Exchange.frame_reference, Cert.Exchange.frame_reference_finite, trivial, Cert.Exchange.value⟩

end Cert.Proof

end
